-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S4x1024x4096 : Shape := ⟨3, ![4, 1024, 4096]⟩
abbrev S2x256x4096 : Shape := ⟨3, ![2, 256, 4096]⟩
abbrev S2x256x2048 : Shape := ⟨3, ![2, 256, 2048]⟩
abbrev S1024x2048 : Shape := ⟨2, ![1024, 2048]⟩
abbrev S2 : Shape := ⟨1, ![2]⟩
abbrev S8 : Shape := ⟨1, ![8]⟩
abbrev S_ : Shape := ⟨0, ![]⟩
abbrev S1x256x4096 : Shape := ⟨3, ![1, 256, 4096]⟩
abbrev S256x4096 : Shape := ⟨2, ![256, 4096]⟩
abbrev S1x512x4096 : Shape := ⟨3, ![1, 512, 4096]⟩
abbrev S512x4096 : Shape := ⟨2, ![512, 4096]⟩
abbrev S1x256x2048 : Shape := ⟨3, ![1, 256, 2048]⟩
abbrev S256x2048 : Shape := ⟨2, ![256, 2048]⟩
abbrev S1x1024x4096 : Shape := ⟨3, ![1, 1024, 4096]⟩
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 5
  | .vmem => 5
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4x1024x4096, .fp8e4m3⟩
  | .local _ .vmem, ⟨1, _⟩ => ⟨S4096x2048, .fp8e4m3⟩
  | .local _ .vmem, ⟨2, _⟩ => ⟨S2x256x4096, .f32⟩
  | .local _ .vmem, ⟨3, _⟩ => ⟨S2x256x2048, .f32⟩
  | .local _ .vmem, ⟨4, _⟩ => ⟨S1024x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_55 : BitVec 32 := 1#32
  let v55 : BitVec 32 := Scalar.muli v4 c1_i32_55
  let v56 : BitVec 32 := Scalar.addi c0_i32_56 v55
  v56.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_87 : BitVec 32 := 1#32
  let v87 : BitVec 32 := Scalar.muli v4 c1_i32_87
  let v88 : BitVec 32 := Scalar.addi c0_i32_88 v87
  v88.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_97 : BitVec 32 := 1#32
  let v97 : BitVec 32 := Scalar.muli v7 c1_i32_97
  let v98 : BitVec 32 := Scalar.addi c0_i32_98 v97
  v98.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_107 : BitVec 32 := 1#32
  let v107 : BitVec 32 := Scalar.muli v7 c1_i32_107
  let v108 : BitVec 32 := Scalar.addi c0_i32_108 v107
  v108.toNat
def k0_off1 (d0 : Dev nD) : Fin 2 → Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v117 : BitVec 32 := Scalar.muli v2 c2048_i32
  ![0, v117.toNat]
def k0_off2 (d0 : Dev nD) : Fin 2 → Nat :=
  let c256_i32_123 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_118 : BitVec 32 := 2048#32
  let v123 : BitVec 32 := Scalar.muli v2 c2048_i32_118
  ![256, v123.toNat]
def k0_off3 (d0 : Dev nD) : Fin 2 → Nat :=
  let c512_i32_140 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_135 : BitVec 32 := 2048#32
  let v141 : BitVec 32 := Scalar.muli v2 c2048_i32_135
  ![512, v141.toNat]
def k0_off4 (d0 : Dev nD) : Fin 2 → Nat :=
  let c768_i32_157 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_152 : BitVec 32 := 2048#32
  let v159 : BitVec 32 := Scalar.muli v2 c2048_i32_152
  ![768, v159.toNat]
def k0_off5 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_169 : BitVec 32 := 2048#32
  let v177 : BitVec 32 := Scalar.muli v2 c2048_i32_169
  ![1024, v177.toNat]
def k0_off6 (d0 : Dev nD) : Fin 2 → Nat :=
  let c1280_i32 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_185 : BitVec 32 := 2048#32
  let v195 : BitVec 32 := Scalar.muli v2 c2048_i32_185
  ![1280, v195.toNat]
def k0_off7 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_200 : BitVec 32 := 2048#32
  let v213 : BitVec 32 := Scalar.muli v2 c2048_i32_200
  ![1536, v213.toNat]
def k0_off8 (d0 : Dev nD) : Fin 2 → Nat :=
  let c1792_i32 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_215 : BitVec 32 := 2048#32
  let v231 : BitVec 32 := Scalar.muli v2 c2048_i32_215
  ![1792, v231.toNat]
def k0_off9 (d0 : Dev nD) : Fin 2 → Nat :=
  let c2048_i32_235 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_230 : BitVec 32 := 2048#32
  let v249 : BitVec 32 := Scalar.muli v2 c2048_i32_230
  ![2048, v249.toNat]
def k0_off10 (d0 : Dev nD) : Fin 2 → Nat :=
  let c2304_i32 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_246 : BitVec 32 := 2048#32
  let v267 : BitVec 32 := Scalar.muli v2 c2048_i32_246
  ![2304, v267.toNat]
def k0_off11 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_261 : BitVec 32 := 2048#32
  let v285 : BitVec 32 := Scalar.muli v2 c2048_i32_261
  ![2560, v285.toNat]
def k0_off12 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_276 : BitVec 32 := 2048#32
  let v303 : BitVec 32 := Scalar.muli v2 c2048_i32_276
  ![2816, v303.toNat]
def k0_off13 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_291 : BitVec 32 := 2048#32
  let v321 : BitVec 32 := Scalar.muli v2 c2048_i32_291
  ![3072, v321.toNat]
def k0_off14 (d0 : Dev nD) : Fin 2 → Nat :=
  let c3328_i32 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_306 : BitVec 32 := 2048#32
  let v339 : BitVec 32 := Scalar.muli v2 c2048_i32_306
  ![3328, v339.toNat]
def k0_off15 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_321 : BitVec 32 := 2048#32
  let v357 : BitVec 32 := Scalar.muli v2 c2048_i32_321
  ![3584, v357.toNat]
def k0_off16 (d0 : Dev nD) : Fin 2 → Nat :=
  let c3840_i32 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_336 : BitVec 32 := 2048#32
  let v375 : BitVec 32 := Scalar.muli v2 c2048_i32_336
  ![3840, v375.toNat]
def k0_off17 (d0 : Dev nD) (c0_i32_377 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v428 : BitVec 32 := Scalar.addi v2 c0_i32_377
  let c4_i32_378 : BitVec 32 := 4#32
  let v429 : BitVec 32 := Scalar.remsi v428 c4_i32_378
  let c1024_i32_379 : BitVec 32 := 1024#32
  let v430 : BitVec 32 := Scalar.muli v429 c1024_i32_379
  let c0_i32_381 : BitVec 32 := 0#32
  ![v430.toNat, 0]
def k0_off17_at (r : Fin 3) : BitVec 32 :=
  if r.val < 1 then
    0#32
  else
    if r.val < 2 then
      3#32
    else
      1#32
def k0_dev7 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_396 : BitVec 32 := 1#32
  let v442 : BitVec 32 := Scalar.muli v4 c1_i32_396
  let v443 : BitVec 32 := Scalar.addi c0_i32_397 v442
  v443.toNat
def k0_dev8 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_405 : BitVec 32 := 1#32
  let v452 : BitVec 32 := Scalar.muli v4 c1_i32_405
  let v453 : BitVec 32 := Scalar.addi c0_i32_406 v452
  v453.toNat
def k0_dev9 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_455 : BitVec 32 := 1#32
  let v507 : BitVec 32 := Scalar.muli v7 c1_i32_455
  let v508 : BitVec 32 := Scalar.addi c0_i32_456 v507
  v508.toNat
def k0_dev10 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_464 : BitVec 32 := 1#32
  let v517 : BitVec 32 := Scalar.muli v7 c1_i32_464
  let v518 : BitVec 32 := Scalar.addi c0_i32_465 v517
  v518.toNat
def k0_off18 (d0 : Dev nD) (c0_i32_531 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_502 : BitVec 32 := 2#32
  let v564 : BitVec 32 := Scalar.addi v2 c2_i32_502
  let c4_i32_503 : BitVec 32 := 4#32
  let v565 : BitVec 32 := Scalar.remsi v564 c4_i32_503
  let c1024_i32_530 : BitVec 32 := 1024#32
  let v597 : BitVec 32 := Scalar.muli v565 c1024_i32_530
  let v598 : BitVec 32 := Scalar.addi v597 c0_i32_531
  let c0_i32_533 : BitVec 32 := 0#32
  ![v598.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Base.lean ====
/-
# The kernel's run: the algebra and the buffers

What the other modules of the run share: the resource algebra (the staging pipeline's rounds, the rounds of the barrier
and the remote copies, the counters of the local copies) and the names of the kernel's buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Rounds
public import Idealize.ShloMosaic.Lib.Pipeline.Launch
public import Idealize.ShloMosaic.Lib.Pipeline.Kit
public import Idealize.ShloMosaic.Lib.Transfers
public import Idealize.ShloMosaic.Lib.Exec
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the barrier and the remote copies: a duty is named by a truth value. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

/-- The barrier's and the remote copies' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The transfers' counters: the right half of the right factor. -/
abbrev EC : UEmb Counters (MT nD τ sig Unit (Elt F) ℕ UU ℕ) := countersEmb

/-! ## The buffers -/

abbrev xM : Memref sig .tc .hbm S1024x4096 .f32 := Memref.whole main_arg0
abbrev wM : Memref sig .tc .hbm S4096x8192 .f32 := Memref.whole main_arg1
abbrev sxM : Memref sig .tc .smem S1 .f32 := Memref.whole cc0_stg0_0
abbrev swM : Memref sig .tc .smem S1 .f32 := Memref.whole cc0_stg1_0
abbrev oM : Memref sig .tc .hbm S4096x2048 .f32 := Memref.whole main_v1
abbrev gM : Memref sig .tc .vmem S4x1024x4096 .fp8e4m3 := Memref.whole cc0_scratch0
abbrev hM : Memref sig .tc .vmem S4096x2048 .fp8e4m3 := Memref.whole cc0_scratch1
abbrev xsM : Memref sig .tc .vmem S2x256x4096 .f32 := Memref.whole cc0_scratch2
abbrev wsM : Memref sig .tc .vmem S2x256x2048 .f32 := Memref.whole cc0_scratch3
abbrev aM : Memref sig .tc .vmem S1024x2048 .f32 := Memref.whole cc0_scratch4

/-! ## The copies' semaphores -/

abbrev xsem0 : DmaSem sig := ((cc0_scratch5.slice (Rect.unit (s := S2) ![0] S1.size inb_S2_S1_0)).squeeze S_ squeezes_S1_S_).sem
abbrev xsem1 : DmaSem sig := ((cc0_scratch5.slice (Rect.unit (s := S2) ![1] S1.size inb_S2_S1_1)).squeeze S_ squeezes_S1_S_).sem
abbrev wsem0 : DmaSem sig := ((cc0_scratch6.slice (Rect.unit (s := S2) ![0] S1.size inb_S2_S1_0)).squeeze S_ squeezes_S1_S_).sem
abbrev wsem1 : DmaSem sig := ((cc0_scratch6.slice (Rect.unit (s := S2) ![1] S1.size inb_S2_S1_1)).squeeze S_ squeezes_S1_S_).sem
abbrev osem0 : DmaSem sig := ((cc0_scratch7.slice (Rect.unit (s := S2) ![0] S1.size inb_S2_S1_0)).squeeze S_ squeezes_S1_S_).sem
abbrev osem1 : DmaSem sig := ((cc0_scratch7.slice (Rect.unit (s := S2) ![1] S1.size inb_S2_S1_1)).squeeze S_ squeezes_S1_S_).sem
abbrev ssem0 : DmaSem sig := ((cc0_scratch8.slice (Rect.unit (s := S8) ![0] S1.size inb_S8_S1_0)).squeeze S_ squeezes_S1_S_).sem
abbrev ssem1 : DmaSem sig := ((cc0_scratch8.slice (Rect.unit (s := S8) ![1] S1.size inb_S8_S1_1)).squeeze S_ squeezes_S1_S_).sem
abbrev ssem2 : DmaSem sig := ((cc0_scratch8.slice (Rect.unit (s := S8) ![2] S1.size inb_S8_S1_2)).squeeze S_ squeezes_S1_S_).sem
abbrev ssem3 : DmaSem sig := ((cc0_scratch8.slice (Rect.unit (s := S8) ![3] S1.size inb_S8_S1_3)).squeeze S_ squeezes_S1_S_).sem
abbrev ssem4 : DmaSem sig := ((cc0_scratch8.slice (Rect.unit (s := S8) ![4] S1.size inb_S8_S1_4)).squeeze S_ squeezes_S1_S_).sem
abbrev ssem5 : DmaSem sig := ((cc0_scratch8.slice (Rect.unit (s := S8) ![5] S1.size inb_S8_S1_5)).squeeze S_ squeezes_S1_S_).sem
abbrev ssem6 : DmaSem sig := ((cc0_scratch8.slice (Rect.unit (s := S8) ![6] S1.size inb_S8_S1_6)).squeeze S_ squeezes_S1_S_).sem
abbrev ssem7 : DmaSem sig := ((cc0_scratch8.slice (Rect.unit (s := S8) ![7] S1.size inb_S8_S1_7)).squeeze S_ squeezes_S1_S_).sem
abbrev rsem0 : DmaSem sig := ((cc0_scratch9.slice (Rect.unit (s := S8) ![0] S1.size inb_S8_S1_0)).squeeze S_ squeezes_S1_S_).sem
abbrev rsem1 : DmaSem sig := ((cc0_scratch9.slice (Rect.unit (s := S8) ![1] S1.size inb_S8_S1_1)).squeeze S_ squeezes_S1_S_).sem
abbrev rsem2 : DmaSem sig := ((cc0_scratch9.slice (Rect.unit (s := S8) ![2] S1.size inb_S8_S1_2)).squeeze S_ squeezes_S1_S_).sem
abbrev rsem3 : DmaSem sig := ((cc0_scratch9.slice (Rect.unit (s := S8) ![3] S1.size inb_S8_S1_3)).squeeze S_ squeezes_S1_S_).sem
abbrev rsem4 : DmaSem sig := ((cc0_scratch9.slice (Rect.unit (s := S8) ![4] S1.size inb_S8_S1_4)).squeeze S_ squeezes_S1_S_).sem
abbrev rsem5 : DmaSem sig := ((cc0_scratch9.slice (Rect.unit (s := S8) ![5] S1.size inb_S8_S1_5)).squeeze S_ squeezes_S1_S_).sem
abbrev rsem6 : DmaSem sig := ((cc0_scratch9.slice (Rect.unit (s := S8) ![6] S1.size inb_S8_S1_6)).squeeze S_ squeezes_S1_S_).sem
abbrev rsem7 : DmaSem sig := ((cc0_scratch9.slice (Rect.unit (s := S8) ![7] S1.size inb_S8_S1_7)).squeeze S_ squeezes_S1_S_).sem

end Cert.KernelIdeal.Gather

end
-- ==== Proof.Protocol.lean ====
/-
# The gather's protocol

The ring of four devices, the windows of the gathered operand that the remote copies fill, what each signal and each
landing hands over, what each device owes and in which order, and why every wait may be made.

The gathered operand `xg` has four slots of 1024 rows. Slot `s` of device `c` is filled with the quantised shard of the
device `s` steps further round the ring, so ONE function `XG c` says what the whole buffer holds in the end.
-/
module

public import proofs.«01_k».proof.Proof.Base

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring -/

set_option backward.proofsInPublic true in
/-- The device `s` steps further round the ring. -/
def at_ (c : Dev nD) (s : ℕ) : Dev nD := ⟨(c.val + s) % 4, Nat.mod_lt _ (by decide)⟩
abbrev nxt (c : Dev nD) : Dev nD := at_ c 1
abbrev prv (c : Dev nD) : Dev nD := at_ c 3

theorem prv_nxt (c : Dev nD) : prv (nxt c) = c := by revert c; decide
theorem nxt_prv (c : Dev nD) : nxt (prv c) = c := by revert c; decide
theorem at_at (c : Dev nD) (s t : ℕ) : at_ (at_ c s) t = at_ c (s + t) := by
  apply Fin.ext; simp only [at_]; omega
theorem at_congr (c : Dev nD) {s t : ℕ} (h : s % 4 = t % 4) : at_ c s = at_ c t := by
  apply Fin.ext; simp only [at_]; omega

def ring : Dev nD ≃ Dev nD := ⟨nxt, prv, prv_nxt, nxt_prv⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = prv c := by revert c; decide
theorem dev6_eq (c : Dev nD) : (⟨k0_dev6 c, k0_dev6_lt c⟩ : Dev nD) = prv c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = prv c := by revert c; decide
theorem dev10_eq (c : Dev nD) : (⟨k0_dev10 c, k0_dev10_lt c⟩ : Dev nD) = prv c := by revert c; decide

/-! ## Windows of the gathered operand -/

/-- Rows `lo ≤ · < hi` of slot `s`. -/
def gs (s lo hi : ℕ) : Finset S4x1024x4096.Idx :=
  Finset.univ.filter fun i => (i 0).val = s ∧ lo ≤ (i 1).val ∧ (i 1).val < hi

theorem mem_gs {s lo hi : ℕ} {i : S4x1024x4096.Idx} : i ∈ gs s lo hi ↔ (i 0).val = s ∧ lo ≤ (i 1).val ∧ (i 1).val < hi := by
  simp [gs]

/-- Window of 512 rows from row `r` of slot `s`, as the copies name it. -/
abbrev g512 (s r : ℕ) (h : ∀ a, (![s, r, 0] : Fin 3 → ℕ) a + S1x512x4096.size a ≤ S4x1024x4096.size a) :
    Memref sig .tc .vmem S512x4096 .fp8e4m3 :=
  (gM.slice (Rect.unit (s := S4x1024x4096) ![s, r, 0] S1x512x4096.size h) (fun _ => rfl)).squeeze S512x4096 squeezes_S1x512x4096_S512x4096
/-- Window of 256 rows from row `r` of slot `s`, as the copies name it. -/
abbrev g256 (s r : ℕ) (h : ∀ a, (![s, r, 0] : Fin 3 → ℕ) a + S1x256x4096.size a ≤ S4x1024x4096.size a) :
    Memref sig .tc .vmem S256x4096 .fp8e4m3 :=
  (gM.slice (Rect.unit (s := S4x1024x4096) ![s, r, 0] S1x256x4096.size h) (fun _ => rfl)).squeeze S256x4096 squeezes_S1x256x4096_S256x4096

/-- The rectangle of `n` whole rows from row `r` of slot `s` is the set of those rows. -/
theorem rect_gs (s r n : ℕ) (h : ∀ a, (![s, r, 0] : Fin 3 → ℕ) a + (![1, n, 4096] : Fin 3 → ℕ) a ≤ S4x1024x4096.size a) :
    (Rect.unit (s := S4x1024x4096) ![s, r, 0] ![1, n, 4096] h).set = gs s r (r + n) := by
  ext i
  rw [Rect.mem_set_unit, mem_gs]
  constructor
  · intro hi
    have h0 := hi 0; have h1 := hi 1
    simp at h0 h1
    omega
  · rintro ⟨h0, h1, h2⟩ a
    have hl : (i 2).val < 4096 := (i 2).isLt
    fin_cases a <;> simp <;> omega

theorem g512_set (s r : ℕ) (h) : ((g512 s r h).view.set : Finset S4x1024x4096.Idx) = gs s r (r + 512) := by
  rw [← rect_gs s r 512 h]
  exact (View.set_reshape _ _).trans (View.set_slice_whole _ _)
theorem g256_set (s r : ℕ) (h) : ((g256 s r h).view.set : Finset S4x1024x4096.Idx) = gs s r (r + 256) := by
  rw [← rect_gs s r 256 h]
  exact (View.set_reshape _ _).trans (View.set_slice_whole _ _)

abbrev N512 : ℕ := (g512 0 0 inb_S4x1024x4096_S1x512x4096_0_0_0).view.dmaCredit
abbrev N256 : ℕ := (g256 0 0 inb_S4x1024x4096_S1x256x4096_0_0_0).view.dmaCredit

/-! ## Contents -/

/-- Device `d`'s shard of the left operand, as launched. -/
def xA (d : Dev nD) : FVec F S1024x4096 .f32 := (s₀ m ρ).mem ((d : Thread nD τ).loc main_arg0)
/-- Device `d`'s right operand, as launched. -/
def wA (d : Dev nD) : FVec F S4096x8192 .f32 := (s₀ m ρ).mem ((d : Thread nD τ).loc main_arg1)

/-- Device `d`'s shard, quantised. -/
def X8 (d : Dev nD) : FVec F S1024x4096 .fp8e4m3 := truncf .fp8e4m3 (xA m ρ d)

def gRow (i : S4x1024x4096.Idx) : S1024x4096.Idx := fun a => match a with | 0 => i 1 | 1 => i 2

/-- What the gathered operand of device `c` holds in the end: in slot `s`, the shard of the device `s` steps on. -/
def XG (c : Dev nD) : S4x1024x4096.Idx → Elt F .fp8e4m3 := fun i => X8 m ρ (at_ c (i 0).val) (gRow i)

/-- Elements of the gathered operand of device `c`, at a share and contents. -/
def gpt (c : Dev nD) (S : Finset S4x1024x4096.Idx) (q : PosShare TreeShare) (f : S4x1024x4096.Idx → Elt F .fp8e4m3) : sProp 𝕄 :=
  gM.view.loc (c : Thread nD τ) ↦[S]{q} f

omit [FloatOps F] in
instance gpt_storable (c : Dev nD) (S) (q) (f) : BI.Storable (upEmb : UEmb _ 𝕄) (gpt (F := F) c S q f) := by unfold gpt; infer_instance

omit [FloatOps F] in
theorem gpt_congr {c : Dev nD} {S : Finset S4x1024x4096.Idx} {q} {f g : S4x1024x4096.Idx → Elt F .fp8e4m3} (h : ∀ i ∈ S, f i = g i) :
    (gpt c S q f : sProp 𝕄) = gpt c S q g := pointsTo_congr h

omit [FloatOps F] in
theorem gpt_union {c : Dev nD} {S T : Finset S4x1024x4096.Idx} {q} {f : S4x1024x4096.Idx → Elt F .fp8e4m3} (h : Disjoint S T) :
    (gpt c (S ∪ T) q f : sProp 𝕄) ⊣⊢ iprop(gpt c S q f ∗ gpt c T q f) := pointsTo_union h

theorem gs_disj (s lo mid hi : ℕ) : Disjoint (gs s lo mid) (gs s mid hi) := by
  rw [Finset.disjoint_left]; intro i hi hj; rw [mem_gs] at hi hj; omega

theorem gs_union {s lo mid hi : ℕ} (h₁ : lo ≤ mid) (h₂ : mid ≤ hi) : gs s lo hi = gs s lo mid ∪ gs s mid hi := by
  ext i; simp only [Finset.mem_union, mem_gs]; omega

omit [FloatOps F] in
/-- Rows cut in two. -/
theorem gpt_cut {c : Dev nD} {s lo : ℕ} (mid : ℕ) {hi : ℕ} {q} {f : S4x1024x4096.Idx → Elt F .fp8e4m3} (h₁ : lo ≤ mid) (h₂ : mid ≤ hi) :
    (gpt c (gs s lo hi) q f : sProp 𝕄) ⊣⊢ iprop(gpt c (gs s lo mid) q f ∗ gpt c (gs s mid hi) q f) := by
  rw [gs_union h₁ h₂]; exact gpt_union (gs_disj ..)

omit [FloatOps F] in
/-- A share cut in two. -/
theorem gpt_halve {c : Dev nD} {S : Finset S4x1024x4096.Idx} {q : PosShare TreeShare} {f : S4x1024x4096.Idx → Elt F .fp8e4m3} :
    (gpt c S q f : sProp 𝕄) ⊣⊢ iprop(gpt c S q.left f ∗ gpt c S q.right f) := pointsTo_share (by exact q.mem_left_op_right)

omit [FloatOps F] in
/-- The whole buffer cut into its four slots. -/
theorem gpt_slots {c : Dev nD} {q} {f : S4x1024x4096.Idx → Elt F .fp8e4m3} :
    (gpt c Finset.univ q f : sProp 𝕄) ⊣⊢ iprop(gpt c (gs 0 0 1024) q f ∗ gpt c (gs 1 0 1024) q f ∗ gpt c (gs 2 0 1024) q f ∗ gpt c (gs 3 0 1024) q f) := by
  have hu : (Finset.univ : Finset S4x1024x4096.Idx) = gs 0 0 1024 ∪ (gs 1 0 1024 ∪ (gs 2 0 1024 ∪ gs 3 0 1024)) := by
    ext i
    have h0 : (i 0).val < 4 := (i 0).isLt
    have h1 : (i 1).val < 1024 := (i 1).isLt
    simp only [Finset.mem_univ, Finset.mem_union, mem_gs, true_iff]; omega
  have hd : ∀ s t : ℕ, s ≠ t → Disjoint (gs s 0 1024) (gs t 0 1024) := fun s t hst => by
    rw [Finset.disjoint_left]; intro i hi hj; rw [mem_gs] at hi hj; omega
  rw [hu]
  refine (gpt_union (by simp only [Finset.disjoint_union_right]; exact ⟨hd _ _ (by decide), hd _ _ (by decide), hd _ _ (by decide)⟩)).trans ?_
  refine sep_congr .rfl ?_
  refine (gpt_union (by simp only [Finset.disjoint_union_right]; exact ⟨hd _ _ (by decide), hd _ _ (by decide)⟩)).trans ?_
  exact sep_congr .rfl (gpt_union (hd _ _ (by decide)))

theorem XG_congr (c d : Dev nD) {i j : S4x1024x4096.Idx} (h : at_ c (i 0).val = at_ d (j 0).val)
    (h1 : (i 1).val = (j 1).val) (h2 : (i 2).val = (j 2).val) : XG m ρ c i = XG m ρ d j := by
  unfold XG
  rw [h, show gRow i = gRow j from funext fun a => match a with | 0 => Fin.ext h1 | 1 => Fin.ext h2]

/-- What a copy of a 512-row window lands: the destination device's contents, when the two slots name one device. -/
theorem land512 (c d : Dev nD) (s s' r : ℕ) (h h') (hd : at_ d s' = at_ c s) (fd : S4x1024x4096.Idx → Elt F .fp8e4m3) :
    ∀ i ∈ gs s' r (r + 512), (g512 s' r h').view.write (Elt F) fd ((g512 s r h).view.read (Elt F) (XG m ρ c)) Finset.univ i = XG m ρ d i := by
  intro i hi
  have hi' := hi
  rw [← g512_set s' r h'] at hi'
  obtain ⟨x, -, rfl⟩ := Finset.mem_map.mp hi'
  rw [View.write_emb_of_mem (h := Finset.mem_univ x), View.read_apply]
  have hj : ((g512 s r h).view.emb x : S4x1024x4096.Idx) ∈ gs s r (r + 512) := by
    rw [← g512_set s r h]; exact View.emb_mem_set _ x
  refine (show _ = XG m ρ c ((g512 s r h).view.emb x) from rfl).trans (XG_congr m ρ c d ?_ rfl rfl)
  rw [(mem_gs.mp hj).1, (mem_gs.mp hi).1, hd]
/-- The same of a 256-row window. -/
theorem land256 (c d : Dev nD) (s s' r : ℕ) (h h') (hd : at_ d s' = at_ c s) (fd : S4x1024x4096.Idx → Elt F .fp8e4m3) :
    ∀ i ∈ gs s' r (r + 256), (g256 s' r h').view.write (Elt F) fd ((g256 s r h).view.read (Elt F) (XG m ρ c)) Finset.univ i = XG m ρ d i := by
  intro i hi
  have hi' := hi
  rw [← g256_set s' r h'] at hi'
  obtain ⟨x, -, rfl⟩ := Finset.mem_map.mp hi'
  rw [View.write_emb_of_mem (h := Finset.mem_univ x), View.read_apply]
  have hj : ((g256 s r h).view.emb x : S4x1024x4096.Idx) ∈ gs s r (r + 256) := by
    rw [← g256_set s r h]; exact View.emb_mem_set _ x
  refine (show _ = XG m ρ c ((g256 s r h).view.emb x) from rfl).trans (XG_congr m ρ c d ?_ rfl rfl)
  rw [(mem_gs.mp hj).1, (mem_gs.mp hi).1, hd]

/-! ## What the signals and the landings hand over -/

/-- To `c` from its right neighbour: the windows of the right neighbour that `c` fills. -/
def barPayR (c : Dev nD) : sProp 𝕄 :=
  iprop(∃ f, gpt (nxt c) (gs 3 0 512) fullShare f ∗ gpt (nxt c) (gs 3 512 1024) fullShare f
    ∗ gpt (nxt c) (gs 2 0 256) fullShare f ∗ gpt (nxt c) (gs 2 256 512) fullShare f)
/-- To `c` from its left neighbour: the windows of the left neighbour that `c` fills. -/
def barPayL (c : Dev nD) : sProp 𝕄 :=
  iprop(∃ f, gpt (prv c) (gs 1 512 1024) fullShare f ∗ gpt (prv c) (gs 1 0 512) fullShare f
    ∗ gpt (prv c) (gs 2 512 768) fullShare f ∗ gpt (prv c) (gs 2 768 1024) fullShare f)

/-- The rows and the share that the completion of each remote copy hands back (the sends, 8 to 15) or over (the landings,
    16 to 23). -/
def xferWin : ℕ → Finset S4x1024x4096.Idx
  | 8 => gs 0 0 512 | 9 => gs 0 512 1024 | 10 => gs 0 512 1024 | 11 => gs 0 0 512
  | 12 => gs 3 0 256 | 13 => gs 3 256 512 | 14 => gs 1 512 768 | 15 => gs 1 768 1024
  | 16 => gs 3 0 512 | 17 => gs 3 512 1024 | 18 => gs 1 512 1024 | 19 => gs 1 0 512
  | 20 => gs 2 0 256 | 21 => gs 2 256 512 | 22 => gs 2 512 768 | 23 => gs 2 768 1024
  | _ => ∅
def xferShare : ℕ → PosShare TreeShare
  | 8 => fullShare.right.left | 9 => fullShare.right.left | 10 => fullShare.right.right | 11 => fullShare.right.right
  | 12 => fullShare.right | 13 => fullShare.right | 14 => fullShare.right | 15 => fullShare.right
  | _ => fullShare
def xferPay (c : Dev nD) (k : ℕ) : sProp 𝕄 := gpt c (xferWin k) (xferShare k) (XG m ρ c)
instance xferPay_storable (c : Dev nD) (k : ℕ) : BI.Storable (upEmb : UEmb _ 𝕄) (xferPay m ρ c k) := by unfold xferPay; infer_instance
def xferAmt (k : ℕ) : ℕ := if k < 12 then N512 else if k < 16 then N256 else if k < 20 then N512 else N256

theorem N512_pos : 0 < N512 := View.dmaCredit_pos _ (by decide)
theorem N256_pos : 0 < N256 := View.dmaCredit_pos _ (by decide)
theorem xferAmt_pos (k : ℕ) : 0 < xferAmt k := by
  unfold xferAmt; split_ifs <;> first | exact N512_pos | exact N256_pos

/-! ## Cells -/

/-- The runtime's barrier semaphore (unscoped). -/
abbrev barS : Sem sig := (SemArray.scalar (sig.barrier 0 rfl) : Sems sig S_).sem
abbrev bcell (c : Dev nD) : GSem nD τ sig := ((c : Thread nD τ), .reg barS)
abbrev dcell (c : Dev nD) (q : DmaSem sig) : GSem nD τ sig := ((c : Thread nD τ), .dma q)

/-- The seventeen cells of a device: barrier, eight sends, eight landings. -/
def csem (k : Fin 17) : SemLoc sig := if k.val = 0 then .reg barS else .dma (⟨7 + k.val, by have := k.isLt; show 7 + k.val < 24; omega⟩ : DmaSem sig)
abbrev kcell (ck : Dev nD × Fin 17) : GSem nD τ sig := ((ck.1 : Thread nD τ), csem ck.2)

/-! ## The schedule -/

def isBar : SemLoc sig → Bool | .reg s => decide (s = barS) | .dma _ => false
def isXfer : SemLoc sig → Bool | .reg _ => false | .dma q => decide (8 ≤ q.val)
def semNo : SemLoc sig → ℕ | .reg _ => 0 | .dma q => q.val

def gRd : Rounds.Schedule (GSem nD τ sig) Bool 𝕄 where
  duties g r := if r = 0 ∧ g.1.2 = .tc then (if isBar g.2 then Finset.univ else if isXfer g.2 then {false} else ∅) else ∅
  unitless _ := False
  amount g _ _ := if isBar g.2 then 1 else xferAmt (semNo g.2)
  payload g _ d := if isBar g.2 then (if d then barPayR g.1.1 else barPayL g.1.1) else xferPay m ρ g.1.1 (semNo g.2)
  amount_pos g _ _ _ := by
    by_cases h : isBar g.2 = true
    · rw [if_pos h]; exact Nat.one_pos
    · rw [if_neg h]; exact xferAmt_pos _

instance gRd_payload_storable (g : GSem nD τ sig) (r : ℕ) (d : Bool) :
    BI.Storable (upEmb : UEmb _ 𝕄) ((gRd (F := F) m ρ).payload g r d) := by
  show BI.Storable upEmb (if isBar g.2 then (if d then barPayR g.1.1 else barPayL g.1.1) else xferPay m ρ g.1.1 (semNo g.2))
  unfold barPayR barPayL
  (repeat' split) <;> infer_instance

section Sched
variable (c : Dev nD)

theorem duties_bar : (gRd (F := F) m ρ).duties (bcell c) 0 = Finset.univ := rfl
theorem duties_dma (q : DmaSem sig) (h : 8 ≤ q.val) : (gRd (F := F) m ρ).duties (dcell c q) 0 = {false} := by
  simp [gRd, isBar, isXfer, h]
theorem duties_later (g : GSem nD τ sig) : ∀ r, 1 ≤ r → (gRd (F := F) m ρ).duties g r = ∅ :=
  fun r hr => by dsimp only [gRd]; rw [if_neg fun h => by omega]

theorem amount_bar (d : Bool) : (gRd (F := F) m ρ).amount (bcell c) 0 d = 1 := rfl
theorem amount_dma (q : DmaSem sig) (d : Bool) : (gRd (F := F) m ρ).amount (dcell c q) 0 d = xferAmt q.val := rfl

theorem expect_bar : (gRd (F := F) m ρ).expect (bcell c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) (h : 8 ≤ q.val) : (gRd (F := F) m ρ).expect (dcell c q) 0 = xferAmt q.val := by
  unfold Schedule.expect Schedule.amountOf; rw [duties_dma m ρ c q h, Finset.sum_singleton, amount_dma]

theorem payload_bar_true : (gRd (F := F) m ρ).payload (bcell c) 0 true = barPayR c := rfl
theorem payload_bar_false : (gRd (F := F) m ρ).payload (bcell c) 0 false = barPayL c := rfl
theorem payload_dma (q : DmaSem sig) (d : Bool) : (gRd (F := F) m ρ).payload (dcell c q) 0 d = xferPay m ρ c q.val := rfl

theorem rest_bar : bigSep ((gRd (F := F) m ρ).duties (bcell c) 0 \ ∅) (fun d => (gRd (F := F) m ρ).payload (bcell c) 0 d) = iprop(barPayL c ∗ barPayR c) := by
  rw [Finset.sdiff_empty, duties_bar, bigSep_univ_eq_bigSepL [false, true] (by decide) (by decide), bigSepL_cons_cons, bigSepL_singleton,
    payload_bar_false, payload_bar_true]
  rfl
theorem rest_dma (q : DmaSem sig) (h : 8 ≤ q.val) :
    bigSep ((gRd (F := F) m ρ).duties (dcell c q) 0 \ ∅) (fun d => (gRd (F := F) m ρ).payload (dcell c q) 0 d) = xferPay m ρ c q.val := by
  rw [Finset.sdiff_empty, duties_dma m ρ c q h, bigSep_singleton, payload_dma]

end Sched

/-! ## What each device owes, in the order it pays; the levels -/

def debts (c : Dev nD) : List (GSem nD τ sig × ℕ) :=
  [(bcell (prv c), 1), (bcell (nxt c), 1),
   (dcell (nxt c) rsem0, N512), (dcell (nxt c) rsem1, N512), (dcell (prv c) rsem2, N512), (dcell (prv c) rsem3, N512),
   (dcell (nxt c) rsem4, N256), (dcell (nxt c) rsem5, N256), (dcell (prv c) rsem6, N256), (dcell (prv c) rsem7, N256)]

def owed : List (GSem nD τ sig × ℕ) → CellTallies nD τ sig Unit
  | [] => 0
  | p :: ps => owed ps + tallyAt p.1 () p.2
/-- What `c` still owes after its first `k` payments. -/
def D (c : Dev nD) (k : ℕ) : CellTallies nD τ sig Unit := owed ((debts c).drop k)

theorem D_ten (c : Dev nD) : D c 10 = 0 := rfl

theorem owed_pos {ps : List (GSem nD τ sig × ℕ)} {g : GSem nD τ sig} {u : Unit} (h : 0 < owed ps g u) : ∃ p ∈ ps, g = p.1 := by
  induction ps with
  | nil => exact absurd h (Nat.lt_irrefl 0)
  | cons p ps ih =>
    unfold owed at h
    rw [Pi.add_apply, Finsupp.add_apply, tallyAt_apply] at h
    by_cases hg : g = p.1
    · exact ⟨p, List.mem_cons_self, hg⟩
    · rw [if_neg (fun h' => hg h'.1)] at h
      obtain ⟨p', hp', e⟩ := ih (by simpa using h)
      exact ⟨p', List.mem_cons_of_mem _ hp', e⟩

def L (g : GSem nD τ sig) : Finset Unit := if g.1.2 = .tc then {()} else ∅
/-- Barrier cells at 1; the landings of the neighbours' own shards at 2; those of the forwarded halves at 3; all else at 0. -/
def lv (g : GSem nD τ sig) (_ : Unit) : ℕ :=
  match g.2 with
  | .reg s => if s = barS then 1 else 0
  | .dma q => if q.val < 16 then 0 else if q.val < 20 then 2 else 3

theorem L_of_ne (g : GSem nD τ sig) (h : g.1.2 ≠ .tc) : L g = ∅ := if_neg h
theorem L_tc (c : Dev nD) (sm : SemLoc sig) : L ((c : Thread nD τ), sm) = {()} := if_pos rfl

theorem debts_tc (c : Dev nD) : ∀ p ∈ debts c, p.1.1.2 = .tc := by
  intro p hp; fin_cases hp <;> rfl

omit [FloatOps F] in
/-- A wait on a cell below everything still owed. -/
theorem mayWait_of (c : Dev nD) (sm : SemLoc sig) (k n : ℕ) (h₁ : lv ((c : Thread nD τ), sm) () ≤ n)
    (h₂ : ∀ p ∈ (debts c).drop k, n < lv p.1 ()) :
    (levAts L lv : sProp 𝕄) ⊢ MayWait (c : Thread nD τ) sm () (D c k) :=
  MayOwe.of_cut (L := L) (lev := lv) n
    (fun p hp => by rw [Finset.mem_singleton.mp hp, L_tc]; exact Finset.mem_singleton_self _)
    (fun g u hg => by
      obtain ⟨p, hp, rfl⟩ := owed_pos hg
      unfold L; rw [if_pos (debts_tc c p (List.mem_of_mem_drop hp))]; exact Finset.mem_singleton_self _)
    (fun p hp => by rw [Finset.mem_singleton.mp hp]; exact h₁)
    (fun g u hg => by obtain ⟨p, hp, rfl⟩ := owed_pos hg; exact h₂ p hp)

/-- Everything owed lies at level 1 or above, and from the third payment on at level 2 or above, from the seventh on at 3. -/
theorem debts_low (c : Dev nD) : ∀ p ∈ debts c, 0 < lv p.1 () := by revert c; decide
theorem debts_mid (c : Dev nD) : ∀ p ∈ (debts c).drop 2, 1 < lv p.1 () := by revert c; decide
theorem debts_high (c : Dev nD) : ∀ p ∈ (debts c).drop 6, 2 < lv p.1 () := by revert c; decide

omit [FloatOps F] in
theorem mayWait_low (c : Dev nD) (q : DmaSem sig) (hq : q.val < 16) (k : ℕ) : (levAts L lv : sProp 𝕄) ⊢ MayWait (c : Thread nD τ) (.dma q) () (D c k) :=
  mayWait_of c _ k 0 (by dsimp only [lv]; rw [if_pos hq]) (fun p hp => debts_low c p (List.mem_of_mem_drop hp))
omit [FloatOps F] in
theorem mayWait_bar (c : Dev nD) : (levAts L lv : sProp 𝕄) ⊢ MayWait (c : Thread nD τ) (.reg barS) () (D c 2) :=
  mayWait_of c _ 2 1 (by revert c; decide) (debts_mid c)
omit [FloatOps F] in
theorem mayWait_land (c : Dev nD) (q : DmaSem sig) (hq : 16 ≤ q.val) (hq' : q.val < 20) (k : ℕ) (hk : 6 ≤ k) :
    (levAts L lv : sProp 𝕄) ⊢ MayWait (c : Thread nD τ) (.dma q) () (D c k) :=
  mayWait_of c _ k 2 (by dsimp only [lv]; rw [if_neg (by omega), if_pos hq'])
    (fun p hp => debts_high c p (by
      rw [show k = 6 + (k - 6) by omega, ← List.drop_drop] at hp
      exact List.mem_of_mem_drop hp))

end Cert.KernelIdeal.Gather

end
-- ==== Proof.Contents.lean ====
/-
# What the buffers hold

The quantised columns of the right operand, the scale, the blocks of the product, the whole result, and what the loads,
stores and copies of the run leave, each stated without the run.
-/
module

public import proofs.«01_k».proof.Proof.Protocol
public import Idealize.ShloMosaic.Lib.Pointwise

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers -/

abbrev wsW0 : Memref sig .tc .vmem S256x2048 .f32 := (wsM.slice (Rect.unit (s := S2x256x2048) ![0, 0, 0] S1x256x2048.size inb_S2x256x2048_S1x256x2048_0_0_0) (fun _ => rfl)).squeeze S256x2048 squeezes_S1x256x2048_S256x2048
abbrev wsW1 : Memref sig .tc .vmem S256x2048 .f32 := (wsM.slice (Rect.unit (s := S2x256x2048) ![1, 0, 0] S1x256x2048.size inb_S2x256x2048_S1x256x2048_1_0_0) (fun _ => rfl)).squeeze S256x2048 squeezes_S1x256x2048_S256x2048
abbrev xsW0 : Memref sig .tc .vmem S256x4096 .f32 := (xsM.slice (Rect.unit (s := S2x256x4096) ![0, 0, 0] S1x256x4096.size inb_S2x256x4096_S1x256x4096_0_0_0) (fun _ => rfl)).squeeze S256x4096 squeezes_S1x256x4096_S256x4096
abbrev xsW1 : Memref sig .tc .vmem S256x4096 .f32 := (xsM.slice (Rect.unit (s := S2x256x4096) ![1, 0, 0] S1x256x4096.size inb_S2x256x4096_S1x256x4096_1_0_0) (fun _ => rfl)).squeeze S256x4096 squeezes_S1x256x4096_S256x4096

/-- A view over which one piece covers everything reads as that piece, whatever was written before. -/
theorem read_whole_cons {κ} {sp} {s : Shape} {e} (v : View sig κ sp s e) (f : v.ty.Contents (Elt F)) (w : s.Idx → Elt F e) (P) :
    v.read (Elt F) (v.writes (Elt F) f (⟨Rect.whole s, w⟩ :: P)) = w := by
  funext y
  have h := View.read_writes_cons_emb v f (Rect.whole s) w P y
  rwa [Rect.emb_whole_apply] at h

/-- A staging slot, loaded after a copy filled it, is what was copied. -/
theorem wslot0 (f) (w : S256x2048.Idx → Elt F .f32) (P) (h) :
    shapeCast S256x2048 (View.readAt (Elt F) wsM.view (Rect.unit (s := S2x256x2048) ![0, 0, 0] S1x256x2048.size inb_S2x256x2048_S1x256x2048_0_0_0).toLoadRect
      (wsW0.view.writes (Elt F) f (⟨Rect.whole S256x2048, w⟩ :: P))) h = w :=
  read_whole_cons wsW0.view f w P
theorem wslot1 (f) (w : S256x2048.Idx → Elt F .f32) (P) (h) :
    shapeCast S256x2048 (View.readAt (Elt F) wsM.view (Rect.unit (s := S2x256x2048) ![1, 0, 0] S1x256x2048.size inb_S2x256x2048_S1x256x2048_1_0_0).toLoadRect
      (wsW1.view.writes (Elt F) f (⟨Rect.whole S256x2048, w⟩ :: P))) h = w :=
  read_whole_cons wsW1.view f w P
theorem xslot0 (f) (w : S256x4096.Idx → Elt F .f32) (P) (h) :
    shapeCast S256x4096 (View.readAt (Elt F) xsM.view (Rect.unit (s := S2x256x4096) ![0, 0, 0] S1x256x4096.size inb_S2x256x4096_S1x256x4096_0_0_0).toLoadRect
      (xsW0.view.writes (Elt F) f (⟨Rect.whole S256x4096, w⟩ :: P))) h = w :=
  read_whole_cons xsW0.view f w P
theorem xslot1 (f) (w : S256x4096.Idx → Elt F .f32) (P) (h) :
    shapeCast S256x4096 (View.readAt (Elt F) xsM.view (Rect.unit (s := S2x256x4096) ![1, 0, 0] S1x256x4096.size inb_S2x256x4096_S1x256x4096_1_0_0).toLoadRect
      (xsW1.view.writes (Elt F) f (⟨Rect.whole S256x4096, w⟩ :: P))) h = w :=
  read_whole_cons xsW1.view f w P

/-! ## The right operand -/

/-- The place, in the right operand, of an element of `c`'s columns. -/
def wIx (c : Dev nD) (i : S4096x2048.Idx) : S4096x8192.Idx := fun a => match a with
  | 0 => i 0
  | 1 => ⟨2048 * c.val + (i 1).val, by
    have h1 : (i 1).val < 2048 := (i 1).isLt
    have h2 : c.val < 4 := c.isLt
    show _ < 8192
    omega⟩

/-- The quantised columns of the right operand that `c` multiplies by. -/
def W8 (c : Dev nD) : FVec F S4096x2048 .fp8e4m3 := truncf .fp8e4m3 fun i => wA m ρ c (wIx c i)

/-- Row block `t` of `c`'s columns, copied from the right operand and quantised. -/
theorem wpiece (c : Dev nD) (t : ℕ) (off : Fin 2 → ℕ) (hoff : off = ![256 * t, 2048 * c.val]) (ho) (h) (y : S256x2048.Idx) :
    (truncf .fp8e4m3 (View.read (Elt F) (wM.slice (Rect.unit (s := S4096x8192) off S256x2048.size ho) (fun _ => rfl)).view (wA m ρ c)) : FVec F S256x2048 .fp8e4m3) y
      = W8 m ρ c ((Rect.unit (s := S4096x2048) ![256 * t, 0] S256x2048.size h).emb y) := by
  subst hoff
  refine congrArg (FloatOps.truncf (F := F) .fp8e4m3 _) (congrArg (wA m ρ c) (funext fun a => ?_))
  match a with
  | 0 => rfl
  | 1 => exact Fin.ext (show 2048 * c.val + 1 * (y 1).val = 2048 * c.val + (0 + 1 * (y 1).val) by omega)

/-- Where each chunk of the right operand starts. -/
theorem off1_eq (c : Dev nD) : k0_off1 c = ![256 * 0, 2048 * c.val] := by revert c; decide
theorem off2_eq (c : Dev nD) : k0_off2 c = ![256 * 1, 2048 * c.val] := by revert c; decide
theorem off3_eq (c : Dev nD) : k0_off3 c = ![256 * 2, 2048 * c.val] := by revert c; decide
theorem off4_eq (c : Dev nD) : k0_off4 c = ![256 * 3, 2048 * c.val] := by revert c; decide
theorem off5_eq (c : Dev nD) : k0_off5 c = ![256 * 4, 2048 * c.val] := by revert c; decide
theorem off6_eq (c : Dev nD) : k0_off6 c = ![256 * 5, 2048 * c.val] := by revert c; decide
theorem off7_eq (c : Dev nD) : k0_off7 c = ![256 * 6, 2048 * c.val] := by revert c; decide
theorem off8_eq (c : Dev nD) : k0_off8 c = ![256 * 7, 2048 * c.val] := by revert c; decide
theorem off9_eq (c : Dev nD) : k0_off9 c = ![256 * 8, 2048 * c.val] := by revert c; decide
theorem off10_eq (c : Dev nD) : k0_off10 c = ![256 * 9, 2048 * c.val] := by revert c; decide
theorem off11_eq (c : Dev nD) : k0_off11 c = ![256 * 10, 2048 * c.val] := by revert c; decide
theorem off12_eq (c : Dev nD) : k0_off12 c = ![256 * 11, 2048 * c.val] := by revert c; decide
theorem off13_eq (c : Dev nD) : k0_off13 c = ![256 * 12, 2048 * c.val] := by revert c; decide
theorem off14_eq (c : Dev nD) : k0_off14 c = ![256 * 13, 2048 * c.val] := by revert c; decide
theorem off15_eq (c : Dev nD) : k0_off15 c = ![256 * 14, 2048 * c.val] := by revert c; decide
theorem off16_eq (c : Dev nD) : k0_off16 c = ![256 * 15, 2048 * c.val] := by revert c; decide

/-- A row block as the run stores it: copied to a slot, loaded, quantised. -/
theorem wstore0 (c : Dev nD) (t : ℕ) (off : Fin 2 → ℕ) (hoff : off = ![256 * t, 2048 * c.val]) (ho) (h) (f P) (hs hs') (y : S256x2048.Idx) :
    shapeCast S256x2048 (truncf .fp8e4m3 (shapeCast S256x2048 (View.readAt (Elt F) wsM.view (Rect.unit (s := S2x256x2048) ![0, 0, 0] S1x256x2048.size inb_S2x256x2048_S1x256x2048_0_0_0).toLoadRect
        (wsW0.view.writes (Elt F) f (⟨Rect.whole S256x2048, View.read (Elt F) (wM.slice (Rect.unit (s := S4096x8192) off S256x2048.size ho) (fun _ => rfl)).view (wA m ρ c)⟩ :: P))) hs : FVec F S256x2048 .f32) bitsLt_fp8e4m3_f32 : FVec F S256x2048 .fp8e4m3) hs' y
      = W8 m ρ c ((Rect.unit (s := S4096x2048) ![256 * t, 0] S256x2048.size h).emb y) := by
  rw [shapeCast_self, wslot0]; exact wpiece m ρ c t off hoff ho h y
theorem wstore1 (c : Dev nD) (t : ℕ) (off : Fin 2 → ℕ) (hoff : off = ![256 * t, 2048 * c.val]) (ho) (h) (f P) (hs hs') (y : S256x2048.Idx) :
    shapeCast S256x2048 (truncf .fp8e4m3 (shapeCast S256x2048 (View.readAt (Elt F) wsM.view (Rect.unit (s := S2x256x2048) ![1, 0, 0] S1x256x2048.size inb_S2x256x2048_S1x256x2048_1_0_0).toLoadRect
        (wsW1.view.writes (Elt F) f (⟨Rect.whole S256x2048, View.read (Elt F) (wM.slice (Rect.unit (s := S4096x8192) off S256x2048.size ho) (fun _ => rfl)).view (wA m ρ c)⟩ :: P))) hs : FVec F S256x2048 .f32) bitsLt_fp8e4m3_f32 : FVec F S256x2048 .fp8e4m3) hs' y
      = W8 m ρ c ((Rect.unit (s := S4096x2048) ![256 * t, 0] S256x2048.size h).emb y) := by
  rw [shapeCast_self, wslot1]; exact wpiece m ρ c t off hoff ho h y

/-! ## The left operand -/

/-- Row block `t` of `c`'s shard, copied and quantised. -/
theorem xpiece (c : Dev nD) (r : ℕ) (ho) (h) (y : S1x256x4096.Idx) (hs) :
    shapeCast S1x256x4096 (truncf .fp8e4m3 (View.read (Elt F) (xM.slice (Rect.unit (s := S1024x4096) ![r, 0] S256x4096.size ho) (fun _ => rfl)).view (xA m ρ c)) : FVec F S256x4096 .fp8e4m3) hs y
      = XG m ρ c ((Rect.unit (s := S4x1024x4096) ![0, r, 0] S1x256x4096.size h).emb y) := by
  have e : shapeCast S1x256x4096 (truncf .fp8e4m3 (View.read (Elt F) (xM.slice (Rect.unit (s := S1024x4096) ![r, 0] S256x4096.size ho) (fun _ => rfl)).view (xA m ρ c)) bitsLt_fp8e4m3_f32 : FVec F S256x4096 .fp8e4m3) hs y
      = FloatOps.truncf (F := F) .fp8e4m3 bitsLt_fp8e4m3_f32 (View.read (Elt F) (xM.slice (Rect.unit (s := S1024x4096) ![r, 0] S256x4096.size ho) (fun _ => rfl)).view (xA m ρ c) (ix2 (y 1) (y 2))) := by
    simp only [pointwise]
  refine e.trans (congrArg (FloatOps.truncf (F := F) .fp8e4m3 _) ?_)
  have h0 : (y 0).val < 1 := (y 0).isLt
  have hc : at_ c (0 + 1 * (y 0).val) = c := by
    apply Fin.ext; have hcl : c.val < 4 := c.isLt
    show (c.val + (0 + 1 * (y 0).val)) % 4 = c.val
    omega
  show xA m ρ c _ = xA m ρ (at_ c (0 + 1 * (y 0).val)) _
  rw [hc]
  refine congrArg (xA m ρ c) (funext fun a => ?_)
  match a with
  | 0 => rfl
  | 1 => rfl

/-- The same through the staging slots. -/
theorem xstore0 (c : Dev nD) (r : ℕ) (ho) (h) (f P) (hs hs') (y : S1x256x4096.Idx) :
    shapeCast S1x256x4096 (truncf .fp8e4m3 (shapeCast S256x4096 (View.readAt (Elt F) xsM.view (Rect.unit (s := S2x256x4096) ![0, 0, 0] S1x256x4096.size inb_S2x256x4096_S1x256x4096_0_0_0).toLoadRect
        (xsW0.view.writes (Elt F) f (⟨Rect.whole S256x4096, View.read (Elt F) (xM.slice (Rect.unit (s := S1024x4096) ![r, 0] S256x4096.size ho) (fun _ => rfl)).view (xA m ρ c)⟩ :: P))) hs : FVec F S256x4096 .f32) bitsLt_fp8e4m3_f32 : FVec F S256x4096 .fp8e4m3) hs' y
      = XG m ρ c ((Rect.unit (s := S4x1024x4096) ![0, r, 0] S1x256x4096.size h).emb y) := by
  rw [xslot0]; exact xpiece m ρ c r ho h y hs'
theorem xstore1 (c : Dev nD) (r : ℕ) (ho) (h) (f P) (hs hs') (y : S1x256x4096.Idx) :
    shapeCast S1x256x4096 (truncf .fp8e4m3 (shapeCast S256x4096 (View.readAt (Elt F) xsM.view (Rect.unit (s := S2x256x4096) ![1, 0, 0] S1x256x4096.size inb_S2x256x4096_S1x256x4096_1_0_0).toLoadRect
        (xsW1.view.writes (Elt F) f (⟨Rect.whole S256x4096, View.read (Elt F) (xM.slice (Rect.unit (s := S1024x4096) ![r, 0] S256x4096.size ho) (fun _ => rfl)).view (xA m ρ c)⟩ :: P))) hs : FVec F S256x4096 .f32) bitsLt_fp8e4m3_f32 : FVec F S256x4096 .fp8e4m3) hs' y
      = XG m ρ c ((Rect.unit (s := S4x1024x4096) ![0, r, 0] S1x256x4096.size h).emb y) := by
  rw [xslot1]; exact xpiece m ρ c r ho h y hs'

/-- A block of 256 rows of slot 0. -/
abbrev gBlk (r : ℕ) (h : ∀ a, (![0, r, 0] : Fin 3 → ℕ) a + S1x256x4096.size a ≤ S4x1024x4096.size a) : Rect S4x1024x4096 :=
  Rect.unit (s := S4x1024x4096) ![0, r, 0] S1x256x4096.size h

/-- A rectangle of the gathered operand is its own index set. -/
theorem g_setOn (S : Finset S4x1024x4096.Idx) : gM.view.setOn S = S := Finset.map_refl

theorem g_hit (f : S4x1024x4096.Idx → Elt F .fp8e4m3) (R : Rect S4x1024x4096) (w : R.shape.Idx → Elt F .fp8e4m3) (P) (y) :
    gM.view.writes (Elt F) f (⟨R, w⟩ :: P) (R.emb y) = w y := View.read_writes_cons_emb gM.view f R w P y

/-- A block of slot 0 once its rows are stored. -/
theorem blk_ready (c : Dev nD) (r : ℕ) (h) (f : S4x1024x4096.Idx → Elt F .fp8e4m3) (w : S1x256x4096.Idx → Elt F .fp8e4m3)
    (hw : ∀ y, w y = XG m ρ c ((gBlk r h).emb y)) :
    (gM.view.loc (c : Thread nD τ) ↦[gM.view.setOn (gBlk r h).set]{fullShare} gM.view.writes (Elt F) f [⟨gBlk r h, w⟩] : sProp 𝕄)
      = gpt c (gs 0 r (r + 256)) fullShare (XG m ρ c) := by
  rw [g_setOn, rect_gs 0 r 256 h]
  refine gpt_congr fun i hi => ?_
  rw [← rect_gs 0 r 256 h, show (Rect.unit (s := S4x1024x4096) ![0, r, 0] ![1, 256, 4096] h).set = _ from (Rect.map_emb_univ (gBlk r h)).symm] at hi
  obtain ⟨y, -, rfl⟩ := Finset.mem_map.mp hi
  exact (g_hit f (gBlk r h) w [] y).trans (hw y)

/-- Two blocks make a half, and the half three shares: one kept, two lent. -/
theorem half_ready (c : Dev nD) (s r mid hi : ℕ) (h₁ : r ≤ mid) (h₂ : mid ≤ hi) (f : S4x1024x4096.Idx → Elt F .fp8e4m3) :
    (iprop(gpt c (gs s r mid) fullShare f ∗ gpt c (gs s mid hi) fullShare f) : sProp 𝕄)
      ⊢ iprop(gpt c (gs s r hi) fullShare.left f ∗ gpt c (gs s r hi) fullShare.right.left f ∗ gpt c (gs s r hi) fullShare.right.right f) :=
  (gpt_cut mid h₁ h₂).2.trans (gpt_halve.1.trans (BI.sep_mono (BI.Entails.refl _) gpt_halve.1))

/-- A landed half: one share kept, the other cut in two quarters to be lent. -/
theorem lend_half (c : Dev nD) (s r mid hi : ℕ) (h₁ : r ≤ mid) (h₂ : mid ≤ hi) (f : S4x1024x4096.Idx → Elt F .fp8e4m3) :
    (gpt c (gs s r hi) fullShare f : sProp 𝕄)
      ⊢ iprop(gpt c (gs s r hi) fullShare.left f ∗ gpt c (gs s r mid) fullShare.right f ∗ gpt c (gs s mid hi) fullShare.right f) :=
  gpt_halve.1.trans (BI.sep_mono (BI.Entails.refl _) (gpt_cut mid h₁ h₂).1)

/-- Both halves of a slot, as loads of all of it name it. -/
theorem slot_ready (c : Dev nD) (s : ℕ) (h : ∀ a, (![s, 0, 0] : Fin 3 → ℕ) a + S1x1024x4096.size a ≤ S4x1024x4096.size a) (q) (f : S4x1024x4096.Idx → Elt F .fp8e4m3) :
    (iprop(gpt c (gs s 0 512) q f ∗ gpt c (gs s 512 1024) q f) : sProp 𝕄)
      ⊢ (gM.view.loc (c : Thread nD τ) ↦[gM.view.setOn (Rect.unit (s := S4x1024x4096) ![s, 0, 0] S1x1024x4096.size h).set]{q} f) := by
  rw [g_setOn, rect_gs s 0 1024 h]; exact (gpt_cut 512 (by decide) (by decide)).2
theorem slot_back (c : Dev nD) (s : ℕ) (h : ∀ a, (![s, 0, 0] : Fin 3 → ℕ) a + S1x1024x4096.size a ≤ S4x1024x4096.size a) (q) (f : S4x1024x4096.Idx → Elt F .fp8e4m3) :
    (gM.view.loc (c : Thread nD τ) ↦[gM.view.setOn (Rect.unit (s := S4x1024x4096) ![s, 0, 0] S1x1024x4096.size h).set]{q} f : sProp 𝕄)
      ⊢ gpt c (gs s 0 1024) q f := by
  rw [g_setOn, rect_gs s 0 1024 h]; exact BI.Entails.refl _
/-- A quarter of a slot, as loads of it name it. -/
theorem quarter_eq (c : Dev nD) (s r : ℕ) (h : ∀ a, (![s, r, 0] : Fin 3 → ℕ) a + S1x256x4096.size a ≤ S4x1024x4096.size a) (q) (f : S4x1024x4096.Idx → Elt F .fp8e4m3) :
    (gpt c (gs s r (r + 256)) q f : sProp 𝕄)
      = (gM.view.loc (c : Thread nD τ) ↦[gM.view.setOn (Rect.unit (s := S4x1024x4096) ![s, r, 0] S1x256x4096.size h).set]{q} f) := by
  rw [g_setOn, rect_gs s r 256 h]; rfl

/-! ## Loads of the operands -/

/-- One half of the columns of `c`'s quantised right operand. -/
def whIx (h : ℕ) (j : S4096x1024.Idx) : S4096x2048.Idx := fun a => match a with
  | 0 => j 0
  | 1 => ⟨(1024 * h + (j 1).val) % 2048, Nat.mod_lt _ (by decide)⟩
def WH (c : Dev nD) (h : ℕ) : FVec F S4096x1024 .fp8e4m3 := fun j => W8 m ρ c (whIx h j)

/-- A quarter of a shard: the 256 rows from row `r`. -/
def xqIx (r : ℕ) (j : S256x4096.Idx) : S1024x4096.Idx := fun a => match a with
  | 0 => ⟨(r + (j 0).val) % 1024, Nat.mod_lt _ (by decide)⟩
  | 1 => j 1
def XQ (d : Dev nD) (r : ℕ) : FVec F S256x4096 .fp8e4m3 := fun j => X8 m ρ d (xqIx r j)

theorem wh_emb (h : ℕ) (hh : h < 2) (hb) (j : S4096x1024.Idx) :
    (Rect.unit (s := S4096x2048) ![0, 1024 * h] S4096x1024.size hb).emb j = whIx h j := by
  have h1 : (j 1).val < 1024 := (j 1).isLt
  funext a
  match a with
  | 0 => exact Fin.ext (show 0 + 1 * (j 0).val = (j 0).val by omega)
  | 1 => exact Fin.ext (show 1024 * h + 1 * (j 1).val = (1024 * h + (j 1).val) % 2048 by omega)

theorem wload0 (c : Dev nD) (hb) : View.readAt (Elt F) hM.view (Rect.unit (s := S4096x2048) ![0, 0] S4096x1024.size hb).toLoadRect (W8 m ρ c) = WH m ρ c 0 :=
  funext fun j => congrArg (W8 m ρ c) (wh_emb 0 (by decide) hb j)
theorem wload1 (c : Dev nD) (hb) : View.readAt (Elt F) hM.view (Rect.unit (s := S4096x2048) ![0, 1024] S4096x1024.size hb).toLoadRect (W8 m ρ c) = WH m ρ c 1 :=
  funext fun j => congrArg (W8 m ρ c) (wh_emb 1 (by decide) hb j)

theorem xload (c : Dev nD) (s : ℕ) (hb) (hs) :
    shapeCast S1024x4096 (View.readAt (Elt F) gM.view (Rect.unit (s := S4x1024x4096) ![s, 0, 0] S1x1024x4096.size hb).toLoadRect (XG m ρ c)) hs = X8 m ρ (at_ c s) := by
  funext j
  have e : shapeCast S1024x4096 (View.readAt (Elt F) gM.view (Rect.unit (s := S4x1024x4096) ![s, 0, 0] S1x1024x4096.size hb).toLoadRect (XG m ρ c)) hs j
      = View.readAt (Elt F) gM.view (Rect.unit (s := S4x1024x4096) ![s, 0, 0] S1x1024x4096.size hb).toLoadRect (XG m ρ c) (ix3 0 (j 0) (j 1)) := by
    simp only [pointwise]
  refine e.trans ?_
  show X8 m ρ (at_ c (s + 1 * 0)) _ = _
  refine congrArg (X8 m ρ (at_ c s)) (funext fun a => ?_)
  match a with
  | 0 => exact Fin.ext (show 0 + 1 * (j 0).val = (j 0).val by omega)
  | 1 => exact Fin.ext (show 0 + 1 * (j 1).val = (j 1).val by omega)

theorem xqload (c : Dev nD) (s r : ℕ) (hr : r + 256 ≤ 1024) (hb) (hs) :
    shapeCast S256x4096 (View.readAt (Elt F) gM.view (Rect.unit (s := S4x1024x4096) ![s, r, 0] S1x256x4096.size hb).toLoadRect (XG m ρ c)) hs = XQ m ρ (at_ c s) r := by
  funext j
  have e : shapeCast S256x4096 (View.readAt (Elt F) gM.view (Rect.unit (s := S4x1024x4096) ![s, r, 0] S1x256x4096.size hb).toLoadRect (XG m ρ c)) hs j
      = View.readAt (Elt F) gM.view (Rect.unit (s := S4x1024x4096) ![s, r, 0] S1x256x4096.size hb).toLoadRect (XG m ρ c) (ix3 0 (j 0) (j 1)) := by
    simp only [pointwise]
  have h0 : (j 0).val < 256 := (j 0).isLt
  refine e.trans ?_
  show X8 m ρ (at_ c (s + 1 * 0)) _ = _
  refine congrArg (X8 m ρ (at_ c s)) (funext fun a => ?_)
  match a with
  | 0 => exact Fin.ext (show r + 1 * (j 0).val = (r + (j 0).val) % 1024 by omega)
  | 1 => exact Fin.ext (show 0 + 1 * (j 1).val = (j 1).val by omega)

/-! ## The product's blocks and the result -/

/-- A scaled and clipped product of one shard with one half of the columns. -/
def B1 (sc : F .f32) (c d : Dev nD) (h : ℕ) : FVec F S1024x1024 .f32 :=
  maximumf (mulf (matmul dot_S1024x4096_S4096x1024_S1024x1024_1_0_0_1_n_n none (X8 m ρ d) (WH m ρ c h) (constant S1024x1024 .f32 0x00000000#32))
    (broadcast S1024x1024 sc)) (broadcast S1024x1024 (Scalar.ofBits .f32 0x00000000#32 : F .f32))
/-- The same of a quarter of a shard. -/
def B2 (sc : F .f32) (c d : Dev nD) (r h : ℕ) : FVec F S256x1024 .f32 :=
  maximumf (mulf (matmul dot_S256x4096_S4096x1024_S256x1024_1_0_0_1_n_n none (XQ m ρ d r) (WH m ρ c h) (constant S256x1024 .f32 0x00000000#32))
    (broadcast S256x1024 sc)) (broadcast S256x1024 (Scalar.ofBits .f32 0x00000000#32 : F .f32))

def b1Ix (i : S1024x2048.Idx) : S1024x1024.Idx := fun a => match a with
  | 0 => i 0
  | 1 => ⟨(i 1).val % 1024, Nat.mod_lt _ (by decide)⟩
def b2Ix (i : S1024x2048.Idx) : S256x1024.Idx := fun a => match a with
  | 0 => ⟨(i 0).val % 256, Nat.mod_lt _ (by decide)⟩
  | 1 => ⟨(i 1).val % 1024, Nat.mod_lt _ (by decide)⟩

/-- The block of `c`'s result from the shard of device `d`, computed in two halves of the columns. -/
def ACC1 (sc : F .f32) (c d : Dev nD) : S1024x2048.Idx → Elt F .f32 := fun i => B1 m ρ sc c d ((i 1).val / 1024) (b1Ix i)
/-- The block from the shard of the device across the ring, computed quarter by quarter. -/
def ACC2 (sc : F .f32) (c : Dev nD) : S1024x2048.Idx → Elt F .f32 :=
  fun i => B2 m ρ sc c (at_ c 2) (256 * ((i 0).val / 256)) ((i 1).val / 1024) (b2Ix i)

def oDev (i : S4096x2048.Idx) : Dev nD := ⟨(i 0).val / 1024 % 4, Nat.mod_lt _ (by decide)⟩
def oIx (i : S4096x2048.Idx) : S1024x2048.Idx := fun a => match a with
  | 0 => ⟨(i 0).val % 1024, Nat.mod_lt _ (by decide)⟩
  | 1 => i 1
/-- `c`'s whole result. -/
def OUT (sc : F .f32) (c : Dev nD) : S4096x2048.Idx → Elt F .f32 :=
  fun i => if oDev i = at_ c 2 then ACC2 m ρ sc c (oIx i) else ACC1 m ρ sc c (oDev i) (oIx i)

theorem acc1_piece (sc : F .f32) (c d : Dev nD) (h : ℕ) (hh : h < 2) (hb) (x : S1024x1024.Idx) :
    B1 m ρ sc c d h x = ACC1 m ρ sc c d ((Rect.unit (s := S1024x2048) ![0, 1024 * h] S1024x1024.size hb).emb x) := by
  have h1 : (x 1).val < 1024 := (x 1).isLt
  show _ = B1 m ρ sc c d ((1024 * h + 1 * (x 1).val) / 1024) _
  rw [show (1024 * h + 1 * (x 1).val) / 1024 = h by omega]
  refine congrArg (B1 m ρ sc c d h) (funext fun a => ?_)
  match a with
  | 0 => exact Fin.ext (show (x 0).val = 0 + 1 * (x 0).val by omega)
  | 1 => exact Fin.ext (show (x 1).val = (1024 * h + 1 * (x 1).val) % 1024 by omega)

theorem acc2_piece (sc : F .f32) (c : Dev nD) (q h : ℕ) (hh : h < 2) (hb) (x : S256x1024.Idx) :
    B2 m ρ sc c (at_ c 2) (256 * q) h x = ACC2 m ρ sc c ((Rect.unit (s := S1024x2048) ![256 * q, 1024 * h] S256x1024.size hb).emb x) := by
  have h1 : (x 1).val < 1024 := (x 1).isLt
  have h0 : (x 0).val < 256 := (x 0).isLt
  show _ = B2 m ρ sc c (at_ c 2) (256 * ((256 * q + 1 * (x 0).val) / 256)) ((1024 * h + 1 * (x 1).val) / 1024) _
  rw [show (1024 * h + 1 * (x 1).val) / 1024 = h by omega, show (256 * q + 1 * (x 0).val) / 256 = q by omega]
  refine congrArg (B2 m ρ sc c (at_ c 2) (256 * q) h) (funext fun a => ?_)
  match a with
  | 0 => exact Fin.ext (show (x 0).val = (256 * q + 1 * (x 0).val) % 256 by omega)
  | 1 => exact Fin.ext (show (x 1).val = (1024 * h + 1 * (x 1).val) % 1024 by omega)

theorem out1_piece (sc : F .f32) (c d : Dev nD) (hd : d ≠ at_ c 2) (off : Fin 2 → ℕ) (hoff : off = ![1024 * d.val, 0]) (hb) (x : S1024x2048.Idx) :
    ACC1 m ρ sc c d x = OUT m ρ sc c ((Rect.unit (s := S4096x2048) off S1024x2048.size hb).emb x) := by
  subst hoff
  have h0 : (x 0).val < 1024 := (x 0).isLt
  have hl : d.val < 4 := d.isLt
  have hD : oDev ((Rect.unit (s := S4096x2048) ![1024 * d.val, 0] S1024x2048.size hb).emb x) = d :=
    Fin.ext (show (1024 * d.val + 1 * (x 0).val) / 1024 % 4 = d.val by omega)
  unfold OUT
  rw [hD, if_neg hd]
  refine congrArg (ACC1 m ρ sc c d) (funext fun a => ?_)
  match a with
  | 0 => exact Fin.ext (show (x 0).val = (1024 * d.val + 1 * (x 0).val) % 1024 by omega)
  | 1 => exact Fin.ext (show (x 1).val = 0 + 1 * (x 1).val by omega)

theorem out2_piece (sc : F .f32) (c : Dev nD) (r : ℕ) (hr : r + 256 ≤ 1024) (off : Fin 2 → ℕ) (hoff : off = ![1024 * (at_ c 2).val + r, 0]) (hb) (hb') (x : S256x2048.Idx) :
    ACC2 m ρ sc c ((Rect.unit (s := S1024x2048) ![r, 0] S256x2048.size hb').emb x)
      = OUT m ρ sc c ((Rect.unit (s := S4096x2048) off S256x2048.size hb).emb x) := by
  subst hoff
  have h0 : (x 0).val < 256 := (x 0).isLt
  have hl : (at_ c 2).val < 4 := (at_ c 2).isLt
  have hD : oDev ((Rect.unit (s := S4096x2048) ![1024 * (at_ c 2).val + r, 0] S256x2048.size hb).emb x) = at_ c 2 :=
    Fin.ext (show (1024 * (at_ c 2).val + r + 1 * (x 0).val) / 1024 % 4 = (at_ c 2).val by omega)
  unfold OUT
  rw [hD, if_pos rfl]
  refine congrArg (ACC2 m ρ sc c) (funext fun a => ?_)
  match a with
  | 0 => exact Fin.ext (show r + 1 * (x 0).val = (1024 * (at_ c 2).val + r + 1 * (x 0).val) % 1024 by omega)
  | 1 => rfl

/-- A buffer covered by stores of the right values holds the right values. -/
theorem h_whole (f : S4096x2048.Idx → Elt F .fp8e4m3) (G : S4096x2048.Idx → Elt F .fp8e4m3) (Ps)
    (hG : ∀ p ∈ Ps, ∀ x, p.2 x = G (p.1.emb x)) (hc : ∀ y : S4096x2048.Idx, ∃ p ∈ Ps, y ∈ p.1.set) :
    hM.view.writes (Elt F) f Ps = G :=
  funext fun y => View.read_writes_apply_of_pieces hM.view f G Ps hG y (hc y)

/-- A one-entry shape has one index. -/
theorem S1_one (i j : S1.Idx) : i = j := by
  funext a
  have ha : a = 0 := by revert a; decide
  subst ha
  have hi : (i 0).val < 1 := (i 0).isLt
  have hj : (j 0).val < 1 := (j 0).isLt
  exact Fin.ext (by omega)

theorem at_zero (c : Dev nD) : at_ c 0 = c := by revert c; decide

/-- A block of a product from operands that are known to be the right ones. -/
theorem b1_of (sc : F .f32) (c d : Dev nD) (h : ℕ) {x} (hx : x = X8 m ρ d) :
    maximumf (mulf (matmul dot_S1024x4096_S4096x1024_S1024x1024_1_0_0_1_n_n none x (WH m ρ c h) (constant S1024x1024 .f32 0x00000000#32))
      (broadcast S1024x1024 sc)) (broadcast S1024x1024 (Scalar.ofBits .f32 0x00000000#32 : F .f32)) = B1 m ρ sc c d h := by rw [hx]; rfl
theorem b2_of (sc : F .f32) (c d : Dev nD) (r h : ℕ) {x} (hx : x = XQ m ρ d r) :
    maximumf (mulf (matmul dot_S256x4096_S4096x1024_S256x1024_1_0_0_1_n_n none x (WH m ρ c h) (constant S256x1024 .f32 0x00000000#32))
      (broadcast S256x1024 sc)) (broadcast S256x1024 (Scalar.ofBits .f32 0x00000000#32 : F .f32)) = B2 m ρ sc c d r h := by rw [hx]; rfl

/-- Where each block of the result goes. -/
theorem off17_0_eq (c : Dev nD) : k0_off17 c 0#32 = ![1024 * c.val, 0] := by revert c; decide
theorem off17_3_eq (c : Dev nD) : k0_off17 c 3#32 = ![1024 * (at_ c 3).val, 0] := by revert c; decide
theorem off17_1_eq (c : Dev nD) : k0_off17 c 1#32 = ![1024 * (at_ c 1).val, 0] := by revert c; decide
theorem off18_0_eq (c : Dev nD) : k0_off18 c 0#32 = ![1024 * (at_ c 2).val + 0, 0] := by revert c; decide
theorem off18_1_eq (c : Dev nD) : k0_off18 c 256#32 = ![1024 * (at_ c 2).val + 256, 0] := by revert c; decide
theorem off18_2_eq (c : Dev nD) : k0_off18 c 512#32 = ![1024 * (at_ c 2).val + 512, 0] := by revert c; decide
theorem off18_3_eq (c : Dev nD) : k0_off18 c 768#32 = ![1024 * (at_ c 2).val + 768, 0] := by revert c; decide

/-- The scale: the product of the two scalars, as the scalar unit loads and multiplies them. -/
def scl (fsx fsw : S1.Idx → Elt F .f32) : F .f32 := k0_pay23 (fsx (Shape.Idx.first (by decide))) (fsw (Shape.Idx.first (by decide)))

/-- A finished block, as the stores hold it: from the loaded half of the right operand. -/
theorem gem1_0 (sc : F .f32) (c d : Dev nD) {x : FVec F S1024x4096 .fp8e4m3} (hx : x = X8 m ρ d) (hb) (hs) :
    shapeCast S1024x1024 (maximumf (mulf (matmul dot_S1024x4096_S4096x1024_S1024x1024_1_0_0_1_n_n none x
        (View.readAt (Elt F) hM.view (Rect.unit (s := S4096x2048) ![0, 0] S4096x1024.size hb).toLoadRect (W8 m ρ c)) (constant S1024x1024 .f32 0x00000000#32))
      (broadcast S1024x1024 sc)) (broadcast S1024x1024 (Scalar.ofBits .f32 0x00000000#32 : F .f32))) hs = B1 m ρ sc c d 0 := by
  rw [shapeCast_self, wload0]; exact b1_of m ρ sc c d 0 hx
theorem gem1_1 (sc : F .f32) (c d : Dev nD) {x : FVec F S1024x4096 .fp8e4m3} (hx : x = X8 m ρ d) (hb) (hs) :
    shapeCast S1024x1024 (maximumf (mulf (matmul dot_S1024x4096_S4096x1024_S1024x1024_1_0_0_1_n_n none x
        (View.readAt (Elt F) hM.view (Rect.unit (s := S4096x2048) ![0, 1024] S4096x1024.size hb).toLoadRect (W8 m ρ c)) (constant S1024x1024 .f32 0x00000000#32))
      (broadcast S1024x1024 sc)) (broadcast S1024x1024 (Scalar.ofBits .f32 0x00000000#32 : F .f32))) hs = B1 m ρ sc c d 1 := by
  rw [shapeCast_self, wload1]; exact b1_of m ρ sc c d 1 hx
theorem gem2_0 (sc : F .f32) (c d : Dev nD) (r : ℕ) {x : FVec F S256x4096 .fp8e4m3} (hx : x = XQ m ρ d r) (hb) (hs) :
    shapeCast S256x1024 (maximumf (mulf (matmul dot_S256x4096_S4096x1024_S256x1024_1_0_0_1_n_n none x
        (View.readAt (Elt F) hM.view (Rect.unit (s := S4096x2048) ![0, 0] S4096x1024.size hb).toLoadRect (W8 m ρ c)) (constant S256x1024 .f32 0x00000000#32))
      (broadcast S256x1024 sc)) (broadcast S256x1024 (Scalar.ofBits .f32 0x00000000#32 : F .f32))) hs = B2 m ρ sc c d r 0 := by
  rw [shapeCast_self, wload0]; exact b2_of m ρ sc c d r 0 hx
theorem gem2_1 (sc : F .f32) (c d : Dev nD) (r : ℕ) {x : FVec F S256x4096 .fp8e4m3} (hx : x = XQ m ρ d r) (hb) (hs) :
    shapeCast S256x1024 (maximumf (mulf (matmul dot_S256x4096_S4096x1024_S256x1024_1_0_0_1_n_n none x
        (View.readAt (Elt F) hM.view (Rect.unit (s := S4096x2048) ![0, 1024] S4096x1024.size hb).toLoadRect (W8 m ρ c)) (constant S256x1024 .f32 0x00000000#32))
      (broadcast S256x1024 sc)) (broadcast S256x1024 (Scalar.ofBits .f32 0x00000000#32 : F .f32))) hs = B2 m ρ sc c d r 1 := by
  rw [shapeCast_self, wload1]; exact b2_of m ρ sc c d r 1 hx

theorem a_apply (f : S1024x2048.Idx → Elt F .f32) (G : S1024x2048.Idx → Elt F .f32) (Ps)
    (hG : ∀ p ∈ Ps, ∀ x, p.2 x = G (p.1.emb x)) (y : S1024x2048.Idx) (hc : ∃ p ∈ Ps, y ∈ p.1.set) :
    aM.view.writes (Elt F) f Ps y = G y :=
  View.read_writes_apply_of_pieces aM.view f G Ps hG y hc
theorem o_whole (f : S4096x2048.Idx → Elt F .f32) (G : S4096x2048.Idx → Elt F .f32) (Ps)
    (hG : ∀ p ∈ Ps, ∀ x, p.2 x = G (p.1.emb x)) (hc : ∀ y : S4096x2048.Idx, ∃ p ∈ Ps, y ∈ p.1.set) :
    oM.view.writes (Elt F) f Ps = G :=
  funext fun y => View.read_writes_apply_of_pieces oM.view f G Ps hG y (hc y)

theorem a_read (G : S1024x2048.Idx → Elt F .f32) : View.read (Elt F) aM.view G = G := rfl
theorem a_split (f : S1024x2048.Idx → Elt F .f32) (p q) (P) :
    aM.view.writes (Elt F) f (p :: q :: P) = aM.view.writes (Elt F) (aM.view.writes (Elt F) f P) [p, q] := rfl
theorem a_sub (R : Rect S1024x2048) (hR) (G : S1024x2048.Idx → Elt F .f32) (y : R.shape.Idx) :
    View.read (Elt F) (aM.slice R hR).view G y = G (R.emb y) := rfl

/-- Both halves of a block's columns stored. -/
theorem acc_full (sc : F .f32) (c d : Dev nD) (f P) {w1 w0 : S1024x1024.Idx → Elt F .f32} (h1 : w1 = B1 m ρ sc c d 1) (h0 : w0 = B1 m ρ sc c d 0) (hb1) (hb0) :
    View.read (Elt F) aM.view (aM.view.writes (Elt F) f (⟨Rect.unit (s := S1024x2048) ![0, 1024] S1024x1024.size hb1, w1⟩
      :: ⟨Rect.unit (s := S1024x2048) ![0, 0] S1024x1024.size hb0, w0⟩ :: P)) = ACC1 m ρ sc c d := by
  rw [h1, h0, a_read, a_split]
  funext y
  refine (a_apply (aM.view.writes (Elt F) f P) (ACC1 m ρ sc c d) [⟨Rect.unit (s := S1024x2048) ![0, 1024] S1024x1024.size hb1, B1 m ρ sc c d 1⟩,
    ⟨Rect.unit (s := S1024x2048) ![0, 0] S1024x1024.size hb0, B1 m ρ sc c d 0⟩] ?_ y ?_)
  · intro p hp
    simp only [List.mem_cons, List.not_mem_nil, or_false] at hp
    rcases hp with rfl | rfl
    · exact acc1_piece m ρ sc c d 1 (by decide) hb1
    · exact acc1_piece m ρ sc c d 0 (by decide) hb0
  · have hy0 : (y 0).val < 1024 := (y 0).isLt
    have hy1 : (y 1).val < 2048 := (y 1).isLt
    by_cases h : (y 1).val < 1024
    · refine ⟨_, List.mem_cons_of_mem _ List.mem_cons_self, ?_⟩
      rw [Rect.mem_set_unit]; intro a; fin_cases a <;> simp <;> omega
    · refine ⟨_, List.mem_cons_self, ?_⟩
      rw [Rect.mem_set_unit]; intro a; fin_cases a <;> simp <;> omega

/-- Both halves of a quarter's columns stored. -/
theorem acc_quarter (sc : F .f32) (c : Dev nD) (q : ℕ) (f P) {w1 w0 : S256x1024.Idx → Elt F .f32}
    (h1 : w1 = B2 m ρ sc c (at_ c 2) (256 * q) 1) (h0 : w0 = B2 m ρ sc c (at_ c 2) (256 * q) 0) (hb1) (hb0) (hb) (y : S256x2048.Idx) :
    View.read (Elt F) (aM.slice (Rect.unit (s := S1024x2048) ![256 * q, 0] S256x2048.size hb) (fun _ => rfl)).view
      (aM.view.writes (Elt F) f (⟨Rect.unit (s := S1024x2048) ![256 * q, 1024] S256x1024.size hb1, w1⟩
      :: ⟨Rect.unit (s := S1024x2048) ![256 * q, 0] S256x1024.size hb0, w0⟩ :: P)) y
      = ACC2 m ρ sc c ((Rect.unit (s := S1024x2048) ![256 * q, 0] S256x2048.size hb).emb y) := by
  rw [h1, h0, a_split, a_sub]
  refine (a_apply (aM.view.writes (Elt F) f P) (ACC2 m ρ sc c) [⟨Rect.unit (s := S1024x2048) ![256 * q, 1024] S256x1024.size hb1, B2 m ρ sc c (at_ c 2) (256 * q) 1⟩,
    ⟨Rect.unit (s := S1024x2048) ![256 * q, 0] S256x1024.size hb0, B2 m ρ sc c (at_ c 2) (256 * q) 0⟩] ?_ _ ?_)
  · intro p hp
    simp only [List.mem_cons, List.not_mem_nil, or_false] at hp
    rcases hp with rfl | rfl
    · exact acc2_piece m ρ sc c q 1 (by decide) hb1
    · exact acc2_piece m ρ sc c q 0 (by decide) hb0
  · have hy0 : (y 0).val < 256 := (y 0).isLt
    have hy1 : (y 1).val < 2048 := (y 1).isLt
    by_cases h : (y 1).val < 1024
    · refine ⟨_, List.mem_cons_of_mem _ List.mem_cons_self, ?_⟩
      rw [Rect.mem_set_unit]; intro a; fin_cases a <;> simp <;> omega
    · refine ⟨_, List.mem_cons_self, ?_⟩
      rw [Rect.mem_set_unit]; intro a; fin_cases a <;> simp <;> omega

/-- The seven copies into the result make the result. -/
theorem out_final (sc : F .f32) (c : Dev nD) (fo : S4096x2048.Idx → Elt F .f32) (a0 a3 a1 b0 b2 b1 b3 : Fin 2 → ℕ)
    (ha0 : a0 = ![1024 * c.val, 0]) (ha3 : a3 = ![1024 * (at_ c 3).val, 0]) (ha1 : a1 = ![1024 * (at_ c 1).val, 0])
    (hb0 : b0 = ![1024 * (at_ c 2).val + 0, 0]) (hb2 : b2 = ![1024 * (at_ c 2).val + 512, 0]) (hb1 : b1 = ![1024 * (at_ c 2).val + 256, 0])
    (hb3 : b3 = ![1024 * (at_ c 2).val + 768, 0]) (ia0) (ia3) (ia1) (ib0) (ib2) (ib1) (ib3)
    {w0 w3 w1 : S1024x2048.Idx → Elt F .f32} {v0 v2 v1 v3 : S256x2048.Idx → Elt F .f32}
    (hw0 : w0 = ACC1 m ρ sc c c) (hw3 : w3 = ACC1 m ρ sc c (at_ c 3)) (hw1 : w1 = ACC1 m ρ sc c (at_ c 1))
    (hv0 : ∀ y, v0 y = ACC2 m ρ sc c ((Rect.unit (s := S1024x2048) ![0, 0] S256x2048.size inb_S1024x2048_S256x2048_0_0).emb y))
    (hv2 : ∀ y, v2 y = ACC2 m ρ sc c ((Rect.unit (s := S1024x2048) ![512, 0] S256x2048.size inb_S1024x2048_S256x2048_512_0).emb y))
    (hv1 : ∀ y, v1 y = ACC2 m ρ sc c ((Rect.unit (s := S1024x2048) ![256, 0] S256x2048.size inb_S1024x2048_S256x2048_256_0).emb y))
    (hv3 : ∀ y, v3 y = ACC2 m ρ sc c ((Rect.unit (s := S1024x2048) ![768, 0] S256x2048.size inb_S1024x2048_S256x2048_768_0).emb y)) :
    View.write (Elt F) (oM.slice (Rect.unit (s := S4096x2048) b3 S256x2048.size ib3) (fun _ => rfl)).view
      (View.write (Elt F) (oM.slice (Rect.unit (s := S4096x2048) b1 S256x2048.size ib1) (fun _ => rfl)).view
        (View.write (Elt F) (oM.slice (Rect.unit (s := S4096x2048) b2 S256x2048.size ib2) (fun _ => rfl)).view
          (View.write (Elt F) (oM.slice (Rect.unit (s := S4096x2048) b0 S256x2048.size ib0) (fun _ => rfl)).view
            (View.write (Elt F) (oM.slice (Rect.unit (s := S4096x2048) a1 S1024x2048.size ia1) (fun _ => rfl)).view
              (View.write (Elt F) (oM.slice (Rect.unit (s := S4096x2048) a3 S1024x2048.size ia3) (fun _ => rfl)).view
                (View.write (Elt F) (oM.slice (Rect.unit (s := S4096x2048) a0 S1024x2048.size ia0) (fun _ => rfl)).view fo
                  w0 Finset.univ) w3 Finset.univ) w1 Finset.univ) v0 Finset.univ) v2 Finset.univ) v1 Finset.univ) v3 Finset.univ
      = OUT m ρ sc c := by
  subst hw0 hw3 hw1
  have hc : c.val < 4 := c.isLt
  have n1 : at_ c 1 ≠ at_ c 2 := fun h => by have := congrArg Fin.val h; simp only [at_] at this; omega
  have n3 : at_ c 3 ≠ at_ c 2 := fun h => by have := congrArg Fin.val h; simp only [at_] at this; omega
  have n0 : c ≠ at_ c 2 := fun h => by have := congrArg Fin.val h; simp only [at_] at this; omega
  refine o_whole fo (OUT m ρ sc c) [⟨Rect.unit (s := S4096x2048) b3 S256x2048.size ib3, v3⟩, ⟨Rect.unit (s := S4096x2048) b1 S256x2048.size ib1, v1⟩,
    ⟨Rect.unit (s := S4096x2048) b2 S256x2048.size ib2, v2⟩, ⟨Rect.unit (s := S4096x2048) b0 S256x2048.size ib0, v0⟩,
    ⟨Rect.unit (s := S4096x2048) a1 S1024x2048.size ia1, ACC1 m ρ sc c (at_ c 1)⟩, ⟨Rect.unit (s := S4096x2048) a3 S1024x2048.size ia3, ACC1 m ρ sc c (at_ c 3)⟩,
    ⟨Rect.unit (s := S4096x2048) a0 S1024x2048.size ia0, ACC1 m ρ sc c c⟩] ?_ ?_
  · intro p hp
    simp only [List.mem_cons, List.not_mem_nil, or_false] at hp
    rcases hp with rfl | rfl | rfl | rfl | rfl | rfl | rfl
    · exact fun x => (hv3 x).trans (out2_piece m ρ sc c 768 (by decide) b3 hb3 ib3 _ x)
    · exact fun x => (hv1 x).trans (out2_piece m ρ sc c 256 (by decide) b1 hb1 ib1 _ x)
    · exact fun x => (hv2 x).trans (out2_piece m ρ sc c 512 (by decide) b2 hb2 ib2 _ x)
    · exact fun x => (hv0 x).trans (out2_piece m ρ sc c 0 (by decide) b0 hb0 ib0 _ x)
    · exact out1_piece m ρ sc c _ n1 a1 ha1 ia1
    · exact out1_piece m ρ sc c _ n3 a3 ha3 ia3
    · exact out1_piece m ρ sc c _ n0 a0 ha0 ia0
  · intro y
    subst ha0 ha3 ha1 hb0 hb2 hb1 hb3
    have hy0 : (y 0).val < 4096 := (y 0).isLt
    have hy1 : (y 1).val < 2048 := (y 1).isLt
    have e1 : (at_ c 1).val = (c.val + 1) % 4 := rfl
    have e2 : (at_ c 2).val = (c.val + 2) % 4 := rfl
    have e3 : (at_ c 3).val = (c.val + 3) % 4 := rfl
    have hm : ∀ (o n : ℕ) (ib), o ≤ (y 0).val → (y 0).val < o + n → y ∈ (Rect.unit (s := S4096x2048) ![o, 0] ![n, 2048] ib).set := by
      intro o n ib h1 h2
      rw [Rect.mem_set_unit]; intro a; fin_cases a <;> simp <;> omega
    by_cases k0 : (y 0).val / 1024 = c.val
    · exact ⟨⟨Rect.unit (s := S4096x2048) _ S1024x2048.size ia0, ACC1 m ρ sc c c⟩, by simp, hm (1024 * c.val) 1024 ia0 (by omega) (by omega)⟩
    by_cases k1 : (y 0).val / 1024 = (at_ c 1).val
    · exact ⟨⟨Rect.unit (s := S4096x2048) _ S1024x2048.size ia1, ACC1 m ρ sc c (at_ c 1)⟩, by simp, hm (1024 * (at_ c 1).val) 1024 ia1 (by omega) (by omega)⟩
    by_cases k3 : (y 0).val / 1024 = (at_ c 3).val
    · exact ⟨⟨Rect.unit (s := S4096x2048) _ S1024x2048.size ia3, ACC1 m ρ sc c (at_ c 3)⟩, by simp, hm (1024 * (at_ c 3).val) 1024 ia3 (by omega) (by omega)⟩
    have k2 : (y 0).val / 1024 = (at_ c 2).val := by omega
    by_cases j0 : (y 0).val % 1024 < 256
    · exact ⟨⟨Rect.unit (s := S4096x2048) _ S256x2048.size ib0, v0⟩, by simp, hm (1024 * (at_ c 2).val + 0) 256 ib0 (by omega) (by omega)⟩
    by_cases j1 : (y 0).val % 1024 < 512
    · exact ⟨⟨Rect.unit (s := S4096x2048) _ S256x2048.size ib1, v1⟩, by simp, hm (1024 * (at_ c 2).val + 256) 256 ib1 (by omega) (by omega)⟩
    by_cases j2 : (y 0).val % 1024 < 768
    · exact ⟨⟨Rect.unit (s := S4096x2048) _ S256x2048.size ib2, v2⟩, by simp, hm (1024 * (at_ c 2).val + 512) 256 ib2 (by omega) (by omega)⟩
    · exact ⟨⟨Rect.unit (s := S4096x2048) _ S256x2048.size ib3, v3⟩, by simp, hm (1024 * (at_ c 2).val + 768) 256 ib3 (by omega) (by omega)⟩

end Cert.KernelIdeal.Gather

end
-- ==== Proof.Remote.lean ====
/-
# The remote operations of one device

A signal, the wait on the barrier, the copy of a window to a neighbour and the wait for the end of one, each with what it
takes and what it gives back.
-/
module

public import proofs.«01_k».proof.Proof.Contents

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows of every cell -/

/-- The invariant of every cell, and that every cell is at round 0. -/
def facts (K : Dev nD × Fin 17 → ℕ) : sProp 𝕄 :=
  iprop((bigSep Finset.univ fun ck : Dev nD × Fin 17 => cellInv ER (gRd m ρ) (K ck) (kcell ck))
    ∗ bigSep Finset.univ fun ck : Dev nD × Fin 17 => reached ER (kcell ck) 0)
instance facts_persistent (K : Dev nD × Fin 17 → ℕ) : BI.Persistent (facts m ρ K) := by unfold facts; infer_instance

variable (K : Dev nD × Fin 17 → ℕ)

theorem facts_inv (ck : Dev nD × Fin 17) : facts m ρ K ⊢ cellInv ER (gRd m ρ) (K ck) (kcell ck) := by
  have h : (bigSep Finset.univ fun ck : Dev nD × Fin 17 => (cellInv ER (gRd m ρ) (K ck) (kcell ck) : sProp 𝕄)) ⊢ cellInv ER (gRd m ρ) (K ck) (kcell ck) :=
    bigSep_elim (Finset.mem_univ ck)
  unfold facts; iintro ⟨H, -⟩; iapply h; iexact H
theorem facts_reached (ck : Dev nD × Fin 17) : facts m ρ K ⊢ reached ER (kcell ck) 0 := by
  have h : (bigSep Finset.univ fun ck : Dev nD × Fin 17 => (reached ER (kcell ck) 0 : sProp 𝕄)) ⊢ reached ER (kcell ck) 0 :=
    bigSep_elim (Finset.mem_univ ck)
  unfold facts; iintro ⟨-, H⟩; iapply h; iexact H

/-- The number of the cell of a copy's semaphore. -/
def kOf (q : DmaSem sig) : Fin 17 := ⟨(q.val - 7) % 17, Nat.mod_lt _ (by decide)⟩
theorem kcell_kOf (c : Dev nD) (q : DmaSem sig) (h : 8 ≤ q.val) : kcell (c, kOf q) = dcell c q := by
  have hq : q.val < 24 := q.isLt
  have e : (q.val - 7) % 17 = q.val - 7 := Nat.mod_eq_of_lt (by omega)
  unfold kcell csem kOf
  dsimp only
  rw [if_neg (by rw [e]; omega)]
  exact congrArg (fun x : DmaSem sig => (((c : Thread nD τ), SemLoc.dma x) : GSem nD τ sig)) (Fin.ext (by show 7 + (q.val - 7) % 17 = q.val; omega))

theorem facts_inv_dma (c : Dev nD) (q : DmaSem sig) (h : 8 ≤ q.val) : facts m ρ K ⊢ cellInv ER (gRd m ρ) (K (c, kOf q)) (dcell c q) := by
  rw [← kcell_kOf c q h]; exact facts_inv m ρ K _
theorem facts_reached_dma (c : Dev nD) (q : DmaSem sig) (h : 8 ≤ q.val) : facts m ρ K ⊢ reached ER (dcell c q) 0 := by
  rw [← kcell_kOf c q h]; exact facts_reached m ρ K _
theorem facts_inv_bar (c : Dev nD) : facts m ρ K ⊢ cellInv ER (gRd m ρ) (K (c, 0)) (bcell c) := facts_inv m ρ K (c, 0)
theorem facts_reached_bar (c : Dev nD) : facts m ρ K ⊢ reached ER (bcell c) 0 := facts_reached m ρ K (c, 0)

/-! ## The rules -/

section Rules

/-- One unit to a neighbour's barrier, with the payload of its duty `b`. -/
theorem wp_tell {α : Type} {Q : α → sProp 𝕄} {k : PUnit → Prog (TpuEff nD τ sig (Elt F) Λ₀ .tc) α} (c n d : Dev nD) (hn : n = d) (b : Bool) (O : CellTallies nD τ sig Unit) (W : Waits sig Unit) :
    iprop(facts m ρ K ∗ owes (c : Thread nD τ) (O + tallyAt (bcell d) () 1) W ∗ dutyTok ER (bcell d) 0 b ∗ (if b then barPayR d else barPayL d))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  have hp : (gRd (F := F) m ρ).payload (bcell n) 0 b = if b then barPayR n else barPayL n := by cases b <;> rfl
  rw [← hp]
  iintro ⟨#HF, HO, Ht, Hp⟩
  iapply (Rounds.wp_signal 𝒱₀ ER (gRd m ρ) (c : Thread nD τ) none (dst := (n : Thread nD τ)) (κ := K (n, 0))
      (d := b) (by rw [duties_bar]; exact Finset.mem_univ _) (amount_bar m ρ n b) () O rfl)
  isplitr; · iapply (facts_inv_bar m ρ K n); iexact HF
  isplitl [HO]; · iexact HO
  isplitl [Ht]; · iexact Ht
  isplitl [Hp]; · iexact Hp
  iapply (facts_reached_bar m ρ K n); iexact HF

/-- The wait for both neighbours: the windows of both that this device fills, and the semaphore back at zero. -/
theorem wp_meet {α : Type} {Q : α → sProp 𝕄} {k : PUnit → Prog (TpuEff nD τ sig (Elt F) Λ₀ .tc) α} (c : Dev nD) (W : Waits sig Unit) :
    iprop(facts m ρ K ∗ levAts L lv ∗ cred (tallyAt (bcell c) () 2) ∗ owes (c : Thread nD τ) (D c 2) W ∗ atPos ER (bcell c) 0 ∅ 0)
      ⊢ iprop((((∃ W', owes (c : Thread nD τ) (D c 2) W') ∗ semVal (bcell c) 0 ∗ barPayL c ∗ barPayR c)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 2) k) Q) := by
  iintro ⟨#HF, #Hlev, Hc, HO, Hat⟩ Hk
  iapply (Rounds.wp_wait_rest_token 𝒱₀ ER (gRd m ρ) (c : Thread nD τ) none (κ := K (c, 0))
      (wpE_semWait_eq 𝒱₀ (c : Thread nD τ) none Set.univ) (Set.mem_univ _) () (O := D c 2) (W := W) (R := 0) (m := 0) (T := ∅)
      (by rw [Nat.zero_add]; exact (expect_bar m ρ c).symm)) $$ [Hc HO Hat]
  · isplitr; · iapply (facts_inv_bar m ρ K c); iexact HF
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (gRd m ρ) (Set.mem_univ (K (c, 0))) (fun h => h) (R := 0 + 1) (duties_later m ρ (bcell c))) $$ [Hat] with Hz
  · isplitr; · iapply (facts_inv_bar m ρ K c); iexact HF
    iexact Hat
  iapply Hk
  isplitl [HO]; · iexists _; iexact HO
  isplitl [Hz]; · iexact Hz
  iexact Hp

/-- The wait for the end of a copy, as its sender or as its receiver: the window it hands back or over, and the semaphore
    back at zero. -/
theorem wp_done {α : Type} {Q : α → sProp 𝕄} {k : PUnit → Prog (TpuEff nD τ sig (Elt F) Λ₀ .tc) α} (c : Dev nD) (q : DmaSem sig) (h : 8 ≤ q.val) (O : CellTallies nD τ sig Unit) (W : Waits sig Unit)
    {s : Shape} {e : EltTy} {sp sp' : Space} {src : Memref sig .tc sp s e} {dst : Memref sig .tc sp' s e} {hs} {hd}
    (hN : dst.view.dmaCredit = xferAmt q.val) :
    iprop(facts m ρ K ∗ cred (tallyAt (dcell c q) () (xferAmt q.val)) ∗ owes (c : Thread nD τ) O W ∗ MayWait (c : Thread nD τ) (.dma q) () O
        ∗ atPos ER (dcell c q) 0 ∅ 0)
      ⊢ iprop((((∃ W', owes (c : Thread nD τ) O W') ∗ semVal (dcell c q) 0 ∗ xferPay m ρ c q.val)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  iintro ⟨#HF, Hc, HO, Hmw, Hat⟩ Hk
  iapply (Rounds.wp_wait_rest_token 𝒱₀ ER (gRd m ρ) (c : Thread nD τ) none (κ := K (c, kOf q))
      (wpE_waitDma2_eq 𝒱₀ (c : Thread nD τ) none Set.univ) (Set.mem_univ _) () (O := O) (W := W) (R := 0) (m := 0) (T := ∅)
      (by rw [Nat.zero_add, hN]; exact (expect_dma m ρ c q h).symm)) $$ [Hc HO Hmw Hat]
  · isplitr; · iapply (facts_inv_dma m ρ K c q h); iexact HF
    isplitl [Hc]; · rw [hN]; iexact Hc
    isplitl [HO]; · iexact HO
    isplitl [Hmw]; · iexact Hmw
    iexact Hat
  iintro ⟨HO, Hat, -, Hpay⟩
  ihave Hp := (Entails.of_eq (rest_dma m ρ c q h)) $$ Hpay
  imod (Rounds.cell_close ER (gRd m ρ) (Set.mem_univ (K (c, kOf q))) (fun h => h) (R := 0 + 1) (duties_later m ρ (dcell c q))) $$ [Hat] with Hz
  · isplitr; · iapply (facts_inv_dma m ρ K c q h); iexact HF
    iexact Hat
  iapply Hk
  isplitl [HO]; · iexists _; iexact HO
  isplitl [Hz]; · iexact Hz
  iexact Hp

/-- The same, of a copy of 512 rows. -/
theorem wp_done512 {α : Type} {Q : α → sProp 𝕄} {k : PUnit → Prog (TpuEff nD τ sig (Elt F) Λ₀ .tc) α} (c : Dev nD) (q : DmaSem sig) (h : 8 ≤ q.val) (hk : xferAmt q.val = N512)
    (O : CellTallies nD τ sig Unit) (W : Waits sig Unit) {s r s' r' h₁ h₂} {hs : (g512 s r h₁).view.WordExact} {hd : (g512 s' r' h₂).view.WordExact} :
    iprop(facts m ρ K ∗ cred (tallyAt (dcell c q) () N512) ∗ owes (c : Thread nD τ) O W ∗ MayWait (c : Thread nD τ) (.dma q) () O
        ∗ atPos ER (dcell c q) 0 ∅ 0)
      ⊢ iprop((((∃ W', owes (c : Thread nD τ) O W') ∗ semVal (dcell c q) 0 ∗ xferPay m ρ c q.val)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (g512 s r h₁) (g512 s' r' h₂) hs hd) k) Q) := by
  rw [← hk]; exact wp_done m ρ K c q h O W (Eq.trans (show (g512 s' r' h₂).view.dmaCredit = N512 from rfl) hk.symm)

/-- The same, of a copy of 256 rows. -/
theorem wp_done256 {α : Type} {Q : α → sProp 𝕄} {k : PUnit → Prog (TpuEff nD τ sig (Elt F) Λ₀ .tc) α} (c : Dev nD) (q : DmaSem sig) (h : 8 ≤ q.val) (hk : xferAmt q.val = N256)
    (O : CellTallies nD τ sig Unit) (W : Waits sig Unit) {s r s' r' h₁ h₂} {hs : (g256 s r h₁).view.WordExact} {hd : (g256 s' r' h₂).view.WordExact} :
    iprop(facts m ρ K ∗ cred (tallyAt (dcell c q) () N256) ∗ owes (c : Thread nD τ) O W ∗ MayWait (c : Thread nD τ) (.dma q) () O
        ∗ atPos ER (dcell c q) 0 ∅ 0)
      ⊢ iprop((((∃ W', owes (c : Thread nD τ) O W') ∗ semVal (dcell c q) 0 ∗ xferPay m ρ c q.val)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (g256 s r h₁) (g256 s' r' h₂) hs hd) k) Q) := by
  rw [← hk]; exact wp_done m ρ K c q h O W (Eq.trans (show (g256 s' r' h₂).view.dmaCredit = N256 from rfl) hk.symm)

/-- A copy of 512 rows to a neighbour. -/
theorem wp_send512 {α : Type} {Q : α → sProp 𝕄} {k : PUnit → Prog (TpuEff nD τ sig (Elt F) Λ₀ .tc) α} (c n d : Dev nD) (hn : n = d) (s s' r hi : ℕ) (hhi : r + 512 = hi) {h h'} (hd : at_ d s' = at_ c s) (q : PosShare TreeShare)
    (sS rS : DmaSem sig) (h8 : 8 ≤ sS.val) (h8' : 8 ≤ rS.val) (hp : xferPay m ρ c sS.val = gpt c (gs s r hi) q (XG m ρ c))
    (hp' : xferPay m ρ d rS.val = gpt d (gs s' r hi) fullShare (XG m ρ d)) (hk : xferAmt sS.val = N512) (hk' : xferAmt rS.val = N512)
    {hsc : (g512 s' r h' : Memref sig (Dev.tc n : Thread nD τ).2.kind .vmem S512x4096 .fp8e4m3).view.ref.isScScratch = false}
    {hsrc : (g512 s r h).view.WordExact} {hdst : (g512 s' r h').view.WordExact}
    {hsem : DmaTarget.Typed .vmem (.dma rS) (.remote (Dev.tc n : Thread nD τ) (g512 s' r h') (.dma sS) hsc)}
    (O : CellTallies nD τ sig Unit) (W : Waits sig Unit) :
    iprop(facts m ρ K ∗ gpt c (gs s r hi) q (XG m ρ c) ∗ (∃ f, gpt d (gs s' r hi) fullShare f)
        ∗ owes (c : Thread nD τ) (O + tallyAt (dcell d rS) () N512) W ∗ dutyTok ER (dcell c sS) 0 false ∗ dutyTok ER (dcell d rS) 0 false)
      ⊢ iprop(((cred (tallyAt (dcell c sS) () N512) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (g512 s r h) (.remote (Dev.tc n : Thread nD τ) (g512 s' r h') (.dma sS) hsc) (.dma rS) hsrc hdst hsem) k) Q) := by
  subst hn hhi
  have e1 : (g512 s' r h').view.amount (.dma rS) = N512 := rfl
  have e2 : ((g512 s r h).view.loc (c : Thread nD τ) ↦[(g512 s r h).view.set]{q} (XG m ρ c)) ⊢ (gRd m ρ).payload (dcell c sS) 0 false := by
    rw [payload_dma, hp, g512_set]; exact BI.Entails.refl _
  iintro ⟨#HF, Hs, ⟨%f, Hd⟩, HO, Ht, Ht'⟩
  have e3 : ((g512 s' r h').view.loc (n : Thread nD τ) ↦[(g512 s' r h').view.set]{fullShare}
      ((g512 s' r h').view.write (Elt F) f ((g512 s r h).view.read (Elt F) (XG m ρ c)) Finset.univ)) ⊢ (gRd m ρ).payload (dcell n rS) 0 false := by
    rw [payload_dma, hp', g512_set, ← gpt_congr (land512 m ρ c n s s' r h h' hd f)]; exact BI.Entails.refl _
  have R := Rounds.wp_send_pointsTo (defs := defs₀ (F := F)) (Γ := .empty) (Es := Set.univ) 𝒱₀ ER (gRd m ρ) (c : Thread nD τ) none (c' := (n : Thread nD τ))
    (hsrc := hsrc) (hdst := hdst) (hsem := hsem) (hsc := hsc) (k := k) (Q := Q) (κ₁ := K (c, kOf sS)) (κ₂ := K (n, kOf rS))
    (r₁ := 0) (r₂ := 0) (d₁ := false) (d₂ := false) (q := q) (fs := XG m ρ c) (fd := f)
    (by rw [duties_dma m ρ c sS h8]; exact Finset.mem_singleton_self _) (by rw [duties_dma m ρ n rS h8']; exact Finset.mem_singleton_self _)
    () () N512 e1 ((amount_dma m ρ c sS false).trans hk) ((amount_dma m ρ n rS false).trans hk') O rfl (W := W)
    e2 e3
  rw [g512_set, g512_set] at R
  iapply R
  isplitr; · iapply (facts_inv_dma m ρ K c sS h8); iexact HF
  isplitr; · iapply (facts_inv_dma m ρ K n rS h8'); iexact HF
  isplitl [Hs]
  · iapply (show gpt c (gs s r (r + 512)) q (XG m ρ c) ⊢ ((g512 s r h).view.loc (c : Thread nD τ) ↦[gs s r (r + 512)]{q} XG m ρ c) from BI.Entails.refl _); iexact Hs
  isplitl [Hd]
  · iapply (show gpt n (gs s' r (r + 512)) fullShare f ⊢ ((g512 s' r h').view.loc (n : Thread nD τ) ↦[gs s' r (r + 512)]{fullShare} f) from BI.Entails.refl _); iexact Hd
  isplitl [HO]; · iexact HO
  isplitl [Ht]; · iexact Ht
  isplitr; · iapply (facts_reached_dma m ρ K c sS h8); iexact HF
  isplitl [Ht']; · iexact Ht'
  iapply (facts_reached_dma m ρ K n rS h8'); iexact HF

/-- A copy of 256 rows to a neighbour. -/
theorem wp_send256 {α : Type} {Q : α → sProp 𝕄} {k : PUnit → Prog (TpuEff nD τ sig (Elt F) Λ₀ .tc) α} (c n d : Dev nD) (hn : n = d) (s s' r hi : ℕ) (hhi : r + 256 = hi) {h h'} (hd : at_ d s' = at_ c s) (q : PosShare TreeShare)
    (sS rS : DmaSem sig) (h8 : 8 ≤ sS.val) (h8' : 8 ≤ rS.val) (hp : xferPay m ρ c sS.val = gpt c (gs s r hi) q (XG m ρ c))
    (hp' : xferPay m ρ d rS.val = gpt d (gs s' r hi) fullShare (XG m ρ d)) (hk : xferAmt sS.val = N256) (hk' : xferAmt rS.val = N256)
    {hsc : (g256 s' r h' : Memref sig (Dev.tc n : Thread nD τ).2.kind .vmem S256x4096 .fp8e4m3).view.ref.isScScratch = false}
    {hsrc : (g256 s r h).view.WordExact} {hdst : (g256 s' r h').view.WordExact}
    {hsem : DmaTarget.Typed .vmem (.dma rS) (.remote (Dev.tc n : Thread nD τ) (g256 s' r h') (.dma sS) hsc)}
    (O : CellTallies nD τ sig Unit) (W : Waits sig Unit) :
    iprop(facts m ρ K ∗ gpt c (gs s r hi) q (XG m ρ c) ∗ (∃ f, gpt d (gs s' r hi) fullShare f)
        ∗ owes (c : Thread nD τ) (O + tallyAt (dcell d rS) () N256) W ∗ dutyTok ER (dcell c sS) 0 false ∗ dutyTok ER (dcell d rS) 0 false)
      ⊢ iprop(((cred (tallyAt (dcell c sS) () N256) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (g256 s r h) (.remote (Dev.tc n : Thread nD τ) (g256 s' r h') (.dma sS) hsc) (.dma rS) hsrc hdst hsem) k) Q) := by
  subst hn hhi
  have e1 : (g256 s' r h').view.amount (.dma rS) = N256 := rfl
  have e2 : ((g256 s r h).view.loc (c : Thread nD τ) ↦[(g256 s r h).view.set]{q} (XG m ρ c)) ⊢ (gRd m ρ).payload (dcell c sS) 0 false := by
    rw [payload_dma, hp, g256_set]; exact BI.Entails.refl _
  iintro ⟨#HF, Hs, ⟨%f, Hd⟩, HO, Ht, Ht'⟩
  have e3 : ((g256 s' r h').view.loc (n : Thread nD τ) ↦[(g256 s' r h').view.set]{fullShare}
      ((g256 s' r h').view.write (Elt F) f ((g256 s r h).view.read (Elt F) (XG m ρ c)) Finset.univ)) ⊢ (gRd m ρ).payload (dcell n rS) 0 false := by
    rw [payload_dma, hp', g256_set, ← gpt_congr (land256 m ρ c n s s' r h h' hd f)]; exact BI.Entails.refl _
  have R := Rounds.wp_send_pointsTo (defs := defs₀ (F := F)) (Γ := .empty) (Es := Set.univ) 𝒱₀ ER (gRd m ρ) (c : Thread nD τ) none (c' := (n : Thread nD τ))
    (hsrc := hsrc) (hdst := hdst) (hsem := hsem) (hsc := hsc) (k := k) (Q := Q) (κ₁ := K (c, kOf sS)) (κ₂ := K (n, kOf rS))
    (r₁ := 0) (r₂ := 0) (d₁ := false) (d₂ := false) (q := q) (fs := XG m ρ c) (fd := f)
    (by rw [duties_dma m ρ c sS h8]; exact Finset.mem_singleton_self _) (by rw [duties_dma m ρ n rS h8']; exact Finset.mem_singleton_self _)
    () () N256 e1 ((amount_dma m ρ c sS false).trans hk) ((amount_dma m ρ n rS false).trans hk') O rfl (W := W)
    e2 e3
  rw [g256_set, g256_set] at R
  iapply R
  isplitr; · iapply (facts_inv_dma m ρ K c sS h8); iexact HF
  isplitr; · iapply (facts_inv_dma m ρ K n rS h8'); iexact HF
  isplitl [Hs]
  · iapply (show gpt c (gs s r (r + 256)) q (XG m ρ c) ⊢ ((g256 s r h).view.loc (c : Thread nD τ) ↦[gs s r (r + 256)]{q} XG m ρ c) from BI.Entails.refl _); iexact Hs
  isplitl [Hd]
  · iapply (show gpt n (gs s' r (r + 256)) fullShare f ⊢ ((g256 s' r h').view.loc (n : Thread nD τ) ↦[gs s' r (r + 256)]{fullShare} f) from BI.Entails.refl _); iexact Hd
  isplitl [HO]; · iexact HO
  isplitl [Ht]; · iexact Ht
  isplitr; · iapply (facts_reached_dma m ρ K c sS h8); iexact HF
  isplitl [Ht']; · iexact Ht'
  iapply (facts_reached_dma m ρ K n rS h8'); iexact HF

end Rules

end Cert.KernelIdeal.Gather

end
-- ==== Proof.RunX.lean ====
/-
# The run, from the barrier to the first remote copies

The device tells its two neighbours that their copies may land, waits for both, brings its shard in by four row blocks through
two staging slots, quantises them into slot 0 of the gathered operand, and sends both halves of the shard both ways.
-/
module

public import proofs.«01_k».proof.Proof.Remote

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The two copies to the left neighbour. -/
def sendsL (d0 : Dev nD) : Prog (TpuEff nD τ sig (Elt F) Λ₀ .tc) PUnit := do
  let v105 : Memref sig .tc .vmem S1x512x4096 .fp8e4m3 := gM.slice (Rect.unit (s := S4x1024x4096) ![0, 512, 0] S1x512x4096.size inb_S4x1024x4096_S1x512x4096_0_512_0) (fun _ => rfl)
  let v106 : Memref sig .tc .vmem S512x4096 .fp8e4m3 := v105.squeeze S512x4096 squeezes_S1x512x4096_S512x4096
  let v99 : DmaSems sig S1 := cc0_scratch8.slice (Rect.unit (s := S8) ![2] S1.size inb_S8_S1_2)
  let v100 : DmaSems sig S_ := v99.squeeze S_ squeezes_S1_S_
  let v101 : DmaSems sig S1 := cc0_scratch9.slice (Rect.unit (s := S8) ![2] S1.size inb_S8_S1_2)
  let v102 : DmaSems sig S_ := v101.squeeze S_ squeezes_S1_S_
  let v103 : Memref sig .tc .vmem S1x512x4096 .fp8e4m3 := gM.slice (Rect.unit (s := S4x1024x4096) ![1, 512, 0] S1x512x4096.size inb_S4x1024x4096_S1x512x4096_1_512_0) (fun _ => rfl)
  let v104 : Memref sig .tc .vmem S512x4096 .fp8e4m3 := v103.squeeze S512x4096 squeezes_S1x512x4096_S512x4096
  Prog.lift (.enqueueDma v106 (.remote (Dev.tc (⟨k0_dev5 d0, k0_dev5_lt d0⟩ : Dev nD)) v104 (.dma v100.sem)) (.dma v102.sem) (((Memref.isWhole_whole cc0_scratch0).wordExact_slice rfl _ wordsfp8e4m3_S4x1024x4096_S1x512x4096_0_512_0).reshape _ _) (((Memref.isWhole_whole cc0_scratch0).wordExact_slice rfl _ wordsfp8e4m3_S4x1024x4096_S1x512x4096_1_512_0).reshape _ _) ⟨⟨rfl, Or.inl rfl⟩, trivial⟩)
  let v109 : DmaSems sig S1 := cc0_scratch8.slice (Rect.unit (s := S8) ![3] S1.size inb_S8_S1_3)
  let v110 : DmaSems sig S_ := v109.squeeze S_ squeezes_S1_S_
  let v111 : DmaSems sig S1 := cc0_scratch9.slice (Rect.unit (s := S8) ![3] S1.size inb_S8_S1_3)
  let v112 : DmaSems sig S_ := v111.squeeze S_ squeezes_S1_S_
  let v113 : Memref sig .tc .vmem S1x512x4096 .fp8e4m3 := gM.slice (Rect.unit (s := S4x1024x4096) ![1, 0, 0] S1x512x4096.size inb_S4x1024x4096_S1x512x4096_1_0_0) (fun _ => rfl)
  let v114 : Memref sig .tc .vmem S512x4096 .fp8e4m3 := v113.squeeze S512x4096 squeezes_S1x512x4096_S512x4096
  let v115 : Memref sig .tc .vmem S1x512x4096 .fp8e4m3 := gM.slice (Rect.unit (s := S4x1024x4096) ![0, 0, 0] S1x512x4096.size inb_S4x1024x4096_S1x512x4096_0_0_0) (fun _ => rfl)
  let v116 : Memref sig .tc .vmem S512x4096 .fp8e4m3 := v115.squeeze S512x4096 squeezes_S1x512x4096_S512x4096
  Prog.lift (.enqueueDma v116 (.remote (Dev.tc (⟨k0_dev6 d0, k0_dev6_lt d0⟩ : Dev nD)) v114 (.dma v110.sem)) (.dma v112.sem) (((Memref.isWhole_whole cc0_scratch0).wordExact_slice rfl _ wordsfp8e4m3_S4x1024x4096_S1x512x4096_0_0_0).reshape _ _) (((Memref.isWhole_whole cc0_scratch0).wordExact_slice rfl _ wordsfp8e4m3_S4x1024x4096_S1x512x4096_1_0_0).reshape _ _) ⟨⟨rfl, Or.inl rfl⟩, trivial⟩)
  pure ⟨⟩

/-- Everything up to the copies of the right operand. -/
abbrev xProg : Prog (TpuEff nD τ sig (Elt F) Λ₀ .tc) (Σ' (d0 : Dev nD) (v2 : BitVec 32) (v4 : BitVec 32), BitVec 32) := do
  let ⟨d0, v2, v4, v7⟩ : Σ' (d0 : Dev nD) (v2 : BitVec 32) (v4 : BitVec 32), BitVec 32 ← k0_part1 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9
  k0_part2 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9
  k0_part3 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 d0 v4
  k0_part4 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 d0 v4 v7
  sendsL d0
  pure ⟨d0, v2, v4, v7⟩

/-- What the run up to the right operand's copies starts from. -/
def preX (c : Dev nD) (W : Waits sig Unit)
    (fs : Buf (Elt F) (xsW0.view.loc (c : Thread nD τ))) (fs' : Buf (Elt F) (xsW1.view.loc (c : Thread nD τ))) (fg : S4x1024x4096.Idx → Elt F .fp8e4m3) : sProp 𝕄 :=
  iprop(facts m ρ K ∗ levAts L lv ∗ cred (tallyAt (bcell c) () 2) ∗ owes (c : Thread nD τ) (D c 0) W ∗ atPos ER (bcell c) 0 ∅ 0
        ∗ (dutyTok ER (bcell (prv c)) 0 true ∗ dutyTok ER (bcell (nxt c)) 0 false)
        ∗ (dutyTok ER (dcell c ssem0) 0 false ∗ dutyTok ER (dcell c ssem1) 0 false ∗ dutyTok ER (dcell c ssem2) 0 false ∗ dutyTok ER (dcell c ssem3) 0 false)
        ∗ (dutyTok ER (dcell (nxt c) rsem0) 0 false ∗ dutyTok ER (dcell (nxt c) rsem1) 0 false ∗ dutyTok ER (dcell (prv c) rsem2) 0 false ∗ dutyTok ER (dcell (prv c) rsem3) 0 false)
        ∗ semVal ((c : Thread nD τ), .dma xsem0) 0 ∗ semVal ((c : Thread nD τ), .dma xsem1) 0
        ∗ (xM.view.loc (c : Thread nD τ) ↦{fullShare.left} xA m ρ c) ∗ (xM.view.loc (c : Thread nD τ) ↦{fullShare.right} xA m ρ c)
        ∗ (xsW0.view.loc (c : Thread nD τ) ↦[xsW0.view.set]{fullShare} fs) ∗ (xsW1.view.loc (c : Thread nD τ) ↦[xsW1.view.set]{fullShare} fs')
        ∗ (gM.view.loc (c : Thread nD τ) ↦[gM.view.setOn (gBlk 0 inb_S4x1024x4096_S1x256x4096_0_0_0).set]{fullShare} fg)
        ∗ (gM.view.loc (c : Thread nD τ) ↦[gM.view.setOn (gBlk 256 inb_S4x1024x4096_S1x256x4096_0_256_0).set]{fullShare} fg)
        ∗ (gM.view.loc (c : Thread nD τ) ↦[gM.view.setOn (gBlk 512 inb_S4x1024x4096_S1x256x4096_0_512_0).set]{fullShare} fg)
        ∗ (gM.view.loc (c : Thread nD τ) ↦[gM.view.setOn (gBlk 768 inb_S4x1024x4096_S1x256x4096_0_768_0).set]{fullShare} fg)
        ∗ barPayR (prv c) ∗ barPayL (nxt c))
/-- What it ends with. -/
def postX (c : Dev nD) : sProp 𝕄 :=
  iprop((∃ W', owes (c : Thread nD τ) (D c 6) W') ∗ semVal (bcell c) 0
        ∗ (cred (tallyAt (dcell c ssem0) () N512) ∗ cred (tallyAt (dcell c ssem1) () N512) ∗ cred (tallyAt (dcell c ssem2) () N512) ∗ cred (tallyAt (dcell c ssem3) () N512))
        ∗ semVal ((c : Thread nD τ), .dma xsem0) 0 ∗ semVal ((c : Thread nD τ), .dma xsem1) 0
        ∗ (xM.view.loc (c : Thread nD τ) ↦{fullShare.left} xA m ρ c) ∗ (xM.view.loc (c : Thread nD τ) ↦{fullShare.right} xA m ρ c)
        ∗ (∃ f, xsW0.view.loc (c : Thread nD τ) ↦[xsW0.view.set]{fullShare} f) ∗ (∃ f, xsW1.view.loc (c : Thread nD τ) ↦[xsW1.view.set]{fullShare} f)
        ∗ gpt c (gs 0 0 512) fullShare.left (XG m ρ c) ∗ gpt c (gs 0 512 1024) fullShare.left (XG m ρ c)
        ∗ (∃ f, gpt (nxt c) (gs 2 0 256) fullShare f) ∗ (∃ f, gpt (nxt c) (gs 2 256 512) fullShare f)
        ∗ (∃ f, gpt (prv c) (gs 2 512 768) fullShare f) ∗ (∃ f, gpt (prv c) (gs 2 768 1024) fullShare f))

set_option sl_exec.squeezeSlice true in
theorem runX (c : Dev nD) (W : Waits sig Unit)
    (fs : Buf (Elt F) (xsW0.view.loc (c : Thread nD τ))) (fs' : Buf (Elt F) (xsW1.view.loc (c : Thread nD τ))) (fg : S4x1024x4096.Idx → Elt F .fp8e4m3)
    (Q : (Σ' (d0 : Dev nD) (v2 : BitVec 32) (v4 : BitVec 32), BitVec 32) → sProp 𝕄) :
    iprop(preX m ρ K c W fs fs' fg ∗ (∀ v2 v4 v7, postX m ρ c -∗ Q ⟨c, v2, v4, v7⟩))
    ⊢ wp frame (wpE (defs₀ (F := F)) 𝒱₀ (c : Thread nD τ) none) Set.univ xProg Q := by
  have hm0 := mayWait_low (F := F) c xsem0 (by decide) 2
  have hm1 := mayWait_low (F := F) c xsem1 (by decide) 2
  have hm2 := mayWait_low (F := F) c xsem0 (by decide) 3
  have hm3 := mayWait_low (F := F) c xsem1 (by decide) 3
  unfold xProg sendsL
  simp only [k0_part1_eq_skeleton, k0_part3_eq_skeleton, k0_part4_eq_skeleton]
  unfold k0_part1_skel k0_part3_skel k0_part4_skel
  simp only [semSignalWord, semWaitWord, Prog.lift, Prog.bind_op, Prog.bind_ret, Prog.pure_eq_ret, wp_deviceId]
  unfold preX
  iintro ⟨⟨#HF, #Hlev, HcB, HO, HatB, ⟨HtP, HtN⟩, ⟨Ht0, Ht1, Ht2, Ht3⟩, ⟨Hr0, Hr1, Hr2, Hr3⟩, Hs0, Hs1, Hx, Hx', Hst, Hst', Hg0, Hg1, Hg2, Hg3, HpR, HpL⟩, Hk⟩
  iapply (wp_tell m ρ K c _ (prv c) (dev1_eq c) true (D c 1) W) $$ [HO HtP HpR]
  · isplitr; · iexact HF
    isplitl [HO]; · iexact HO
    isplitl [HtP]; · iexact HtP
    iapply (show barPayR (F := F) (prv c) ⊢ (if (true : Bool) = true then barPayR (prv c) else barPayL (prv c)) from BI.Entails.refl _); iexact HpR
  iintro HO
  iapply (wp_tell m ρ K c _ (nxt c) (dev2_eq c) false (D c 2) W) $$ [HO HtN HpL]
  · isplitr; · iexact HF
    isplitl [HO]; · iexact HO
    isplitl [HtN]; · iexact HtN
    iapply (show barPayL (F := F) (nxt c) ⊢ (if (false : Bool) = true then barPayR (nxt c) else barPayL (nxt c)) from BI.Entails.refl _); iexact HpL
  iintro HO
  iapply (wp_meet m ρ K c W) $$ [HO HcB HatB]
  · isplitr; · iexact HF
    isplitr; · iexact Hlev
    isplitl [HcB]; · iexact HcB
    isplitl [HO]; · iexact HO
    iexact HatB
  iintro ⟨⟨%W1, HO⟩, HzB, HpL, HpR⟩
  sl_exec
  have hb0 := blk_ready m ρ c 0 inb_S4x1024x4096_S1x256x4096_0_0_0 fg (k0_pay1 (View.readAt (Elt F) xsM.view
      (Rect.unit (s := S2x256x4096) ![0, 0, 0] S1x256x4096.size inb_S2x256x4096_S1x256x4096_0_0_0).toLoadRect
      (xsW0.view.writes (Elt F) xsW0.view.junk [⟨Rect.whole S256x4096, runX.sl.dma0 m ρ c⟩])))
    (fun y => xstore0 m ρ c 0 _ _ _ _ _ _ y)
  have hb1 := blk_ready m ρ c 256 inb_S4x1024x4096_S1x256x4096_0_256_0 fg (k0_pay2 (View.readAt (Elt F) xsM.view
      (Rect.unit (s := S2x256x4096) ![1, 0, 0] S1x256x4096.size inb_S2x256x4096_S1x256x4096_1_0_0).toLoadRect
      (xsW1.view.writes (Elt F) xsW1.view.junk [⟨Rect.whole S256x4096, runX.sl.dma0_1 m ρ c⟩])))
    (fun y => xstore1 m ρ c 256 _ _ _ _ _ _ y)
  ihave Hg0 := (Entails.of_eq hb0) $$ Hg0
  ihave Hg1 := (Entails.of_eq hb1) $$ Hg1
  ihave HT := (half_ready c 0 0 256 512 (by decide) (by decide) (XG m ρ c)) $$ [Hg0 Hg1]
  · isplitl [Hg0] <;> iassumption
  icases HT with ⟨HTk, HTr, HTl⟩
  unfold barPayR barPayL
  icases HpR with ⟨%fR, HpR3T, HpR3B, HpR2a, HpR2b⟩
  icases HpL with ⟨%fL, HpL1B, HpL1T, HpL2c, HpL2d⟩
  iapply (wp_send512 m ρ K c _ (nxt c) (dev3_eq c) 0 3 0 512 rfl (by rw [at_at, at_congr c (s := 1 + 3) (t := 0) rfl]) fullShare.right.left ssem0 rsem0
      (by decide) (by decide) rfl rfl rfl rfl (D c 3)) $$ [HTr HpR3T HO Ht0 Hr0]
  · isplitr; · iexact HF
    isplitl [HTr]; · iexact HTr
    isplitl [HpR3T]; · iexists fR; iexact HpR3T
    isplitl [HO]; · iexact HO
    isplitl [Ht0] <;> iassumption
  iintro ⟨Hc0, HO⟩
  sl_exec
  have hb2 := blk_ready m ρ c 512 inb_S4x1024x4096_S1x256x4096_0_512_0 fg (k0_pay3 (runX.sl.x m ρ c))
    (fun y => xstore0 m ρ c 512 _ _ _ _ _ _ y)
  have hb3 := blk_ready m ρ c 768 inb_S4x1024x4096_S1x256x4096_0_768_0 fg (k0_pay4 (runX.sl.x_1 m ρ c))
    (fun y => xstore1 m ρ c 768 _ _ _ _ _ _ y)
  ihave Hg2 := (Entails.of_eq hb2) $$ Hg2
  ihave Hg3 := (Entails.of_eq hb3) $$ Hg3
  ihave HB := (half_ready c 0 512 768 1024 (by decide) (by decide) (XG m ρ c)) $$ [Hg2 Hg3]
  · isplitl [Hg2] <;> iassumption
  icases HB with ⟨HBk, HBr, HBl⟩
  iapply (wp_send512 m ρ K c _ (nxt c) (dev4_eq c) 0 3 512 1024 rfl (by rw [at_at, at_congr c (s := 1 + 3) (t := 0) rfl]) fullShare.right.left ssem1 rsem1
      (by decide) (by decide) rfl rfl rfl rfl (D c 4)) $$ [HBr HpR3B HO Ht1 Hr1]
  · isplitr; · iexact HF
    isplitl [HBr]; · iexact HBr
    isplitl [HpR3B]; · iexists fR; iexact HpR3B
    isplitl [HO]; · iexact HO
    isplitl [Ht1] <;> iassumption
  iintro ⟨Hc1, HO⟩
  iapply (wp_send512 m ρ K c _ (prv c) (dev5_eq c) 0 1 512 1024 rfl (by rw [at_at, at_congr c (s := 3 + 1) (t := 0) rfl]) fullShare.right.right ssem2 rsem2
      (by decide) (by decide) rfl rfl rfl rfl (D c 5)) $$ [HBl HpL1B HO Ht2 Hr2]
  · isplitr; · iexact HF
    isplitl [HBl]; · iexact HBl
    isplitl [HpL1B]; · iexists fL; iexact HpL1B
    isplitl [HO]; · iexact HO
    isplitl [Ht2] <;> iassumption
  iintro ⟨Hc2, HO⟩
  iapply (wp_send512 m ρ K c _ (prv c) (dev6_eq c) 0 1 0 512 rfl (by rw [at_at, at_congr c (s := 3 + 1) (t := 0) rfl]) fullShare.right.right ssem3 rsem3
      (by decide) (by decide) rfl rfl rfl rfl (D c 6)) $$ [HTl HpL1T HO Ht3 Hr3]
  · isplitr; · iexact HF
    isplitl [HTl]; · iexact HTl
    isplitl [HpL1T]; · iexists fL; iexact HpL1T
    isplitl [HO]; · iexact HO
    isplitl [Ht3] <;> iassumption
  iintro ⟨Hc3, HO⟩
  rw [wp_ret]
  imodintro
  iapply Hk
  unfold postX
  isplitl [HO]; · iexists _; iexact HO
  isplitl [HzB]; · iexact HzB
  isplitl [Hc0 Hc1 Hc2 Hc3]
  · isplitl [Hc0]; · iexact Hc0
    isplitl [Hc1]; · iexact Hc1
    isplitl [Hc2] <;> iassumption
  isplitl [Hs0]; · iexact Hs0
  isplitl [Hs1]; · iexact Hs1
  isplitl [Hx]; · iexact Hx
  isplitl [Hx']; · iexact Hx'
  isplitl [Hst]; · iexists _; iexact Hst
  isplitl [Hst']; · iexists _; iexact Hst'
  isplitl [HTk]; · iexact HTk
  isplitl [HBk]; · iexact HBk
  isplitl [HpR2a]; · iexists fR; iexact HpR2a
  isplitl [HpR2b]; · iexists fR; iexact HpR2b
  isplitl [HpL2c]; · iexists fL; iexact HpL2c
  iexists fL; iexact HpL2d

end Cert.KernelIdeal.Gather

end
-- ==== Proof.RunW.lean ====
/-
# The run, from the copies of the right operand to the first half of the first block

The right operand comes in sixteen chunks through two staging slots, each quantised into its place; then the own shard is
multiplied with the first half of the columns.
-/
module

public import proofs.«01_k».proof.Proof.Remote

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The copies of the first two chunks of the right operand. -/
def wStarts (c : Dev nD) : Prog (TpuEff nD τ sig (Elt F) Λ₀ .tc) PUnit := do
  let v118 : DmaSems sig S1 := cc0_scratch6.slice (Rect.unit (s := S2) ![0] S1.size inb_S2_S1_0)
  let v119 : DmaSems sig S_ := v118.squeeze S_ squeezes_S1_S_
  let v120 : Memref sig .tc .vmem S1x256x2048 .f32 := wsM.slice (Rect.unit (s := S2x256x2048) ![0, 0, 0] S1x256x2048.size inb_S2x256x2048_S1x256x2048_0_0_0) (fun _ => rfl)
  let v121 : Memref sig .tc .vmem S256x2048 .f32 := v120.squeeze S256x2048 squeezes_S1x256x2048_S256x2048
  let v122 : Memref sig .tc .hbm S256x2048 .f32 := wM.slice (Rect.unit (s := S4096x8192) (k0_off1 c) S256x2048.size (k0_off1_inb c)) (fun _ => rfl)
  Prog.lift (.enqueueDma v122 (.here v121) (.dma v119.sem) (View.wordExact_bits rfl) ((View.wordExact_bits rfl).reshape _ _) ⟨Or.inl rfl, trivial⟩)
  let v124 : DmaSems sig S1 := cc0_scratch6.slice (Rect.unit (s := S2) ![1] S1.size inb_S2_S1_1)
  let v125 : DmaSems sig S_ := v124.squeeze S_ squeezes_S1_S_
  let v126 : Memref sig .tc .vmem S1x256x2048 .f32 := wsM.slice (Rect.unit (s := S2x256x2048) ![1, 0, 0] S1x256x2048.size inb_S2x256x2048_S1x256x2048_1_0_0) (fun _ => rfl)
  let v127 : Memref sig .tc .vmem S256x2048 .f32 := v126.squeeze S256x2048 squeezes_S1x256x2048_S256x2048
  let v128 : Memref sig .tc .hbm S256x2048 .f32 := wM.slice (Rect.unit (s := S4096x8192) (k0_off2 c) S256x2048.size (k0_off2_inb c)) (fun _ => rfl)
  Prog.lift (.enqueueDma v128 (.here v127) (.dma v125.sem) (View.wordExact_bits rfl) ((View.wordExact_bits rfl).reshape _ _) ⟨Or.inl rfl, trivial⟩)
  pure ⟨⟩

/-- Slot `s` of the gathered operand, as loads of all of it name it. -/
abbrev gSlot (s : ℕ) (h : ∀ a, (![s, 0, 0] : Fin 3 → ℕ) a + S1x1024x4096.size a ≤ S4x1024x4096.size a) : Rect S4x1024x4096 :=
  Rect.unit (s := S4x1024x4096) ![s, 0, 0] S1x1024x4096.size h

/-- The chunks of the right operand and the first product. -/
abbrev wProg (c : Dev nD) (v2 : BitVec 32) : Prog (TpuEff nD τ sig (Elt F) Λ₀ .tc) (Σ' (v407 : F .f32), FVec F S1024x4096 .fp8e4m3) := do
  wStarts c
  k0_part6 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part7 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part8 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  let ⟨v245, v246⟩ : Σ' (v245 : FVec F S256x2048 .fp8e4m3), Vec F S256x2048 .fp8e4m3 ← k0_part9 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part10 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2 v245 v246
  k0_part11 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part12 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part13 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  let v388 : FVec F S256x2048 .f32 ← k0_part14 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2
  k0_part15 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2 v388

set_option sl_exec.squeezeSlice true in
theorem runW (c : Dev nD) (v2 : BitVec 32) (W : Waits sig Unit)
    (fs fs' : Buf (Elt F) (wsM.view.loc (c : Thread nD τ))) (fh : Buf (Elt F) (hM.view.loc (c : Thread nD τ)))
    (fa : Buf (Elt F) (aM.view.loc (c : Thread nD τ))) (fsx fsw : S1.Idx → Elt F .f32) (q : PosShare TreeShare)
    (Q : (Σ' (v407 : F .f32), FVec F S1024x4096 .fp8e4m3) → sProp 𝕄) :
    iprop((levAts L lv ∗ owes (c : Thread nD τ) (D c 6) W ∗ semVal ((c : Thread nD τ), .dma wsem0) 0 ∗ semVal ((c : Thread nD τ), .dma wsem1) 0
        ∗ (wM.view.loc (c : Thread nD τ) ↦{fullShare.left} wA m ρ c) ∗ (wM.view.loc (c : Thread nD τ) ↦{fullShare.right} wA m ρ c)
        ∗ (wsW0.view.loc (c : Thread nD τ) ↦[wsW0.view.set]{fullShare} fs) ∗ (wsW1.view.loc (c : Thread nD τ) ↦[wsW1.view.set]{fullShare} fs')
        ∗ (hM.view.loc (c : Thread nD τ) ↦{fullShare} fh) ∗ (aM.view.loc (c : Thread nD τ) ↦{fullShare} fa)
        ∗ (sxM.view.loc (c : Thread nD τ) ↦{fullShare} fsx) ∗ (swM.view.loc (c : Thread nD τ) ↦{fullShare} fsw)
        ∗ (gM.view.loc (c : Thread nD τ) ↦[gM.view.setOn (gSlot 0 inb_S4x1024x4096_S1x1024x4096_0_0_0).set]{q} XG m ρ c))
      ∗ (((∃ W', owes (c : Thread nD τ) (D c 6) W') ∗ semVal ((c : Thread nD τ), .dma wsem0) 0 ∗ semVal ((c : Thread nD τ), .dma wsem1) 0
        ∗ (wM.view.loc (c : Thread nD τ) ↦{fullShare.left} wA m ρ c) ∗ (wM.view.loc (c : Thread nD τ) ↦{fullShare.right} wA m ρ c)
        ∗ (∃ f, wsW0.view.loc (c : Thread nD τ) ↦[wsW0.view.set]{fullShare} f) ∗ (∃ f, wsW1.view.loc (c : Thread nD τ) ↦[wsW1.view.set]{fullShare} f)
        ∗ (hM.view.loc (c : Thread nD τ) ↦{fullShare} W8 m ρ c)
        ∗ (aM.view.loc (c : Thread nD τ) ↦{fullShare} aM.view.writes (Elt F) fa
            [⟨Rect.unit (s := S1024x2048) ![0, 0] S1024x1024.size inb_S1024x2048_S1024x1024_0_0, B1 m ρ (scl fsx fsw) c c 0⟩])
        ∗ (sxM.view.loc (c : Thread nD τ) ↦{fullShare} fsx) ∗ (swM.view.loc (c : Thread nD τ) ↦{fullShare} fsw)
        ∗ (gM.view.loc (c : Thread nD τ) ↦[gM.view.setOn (gSlot 0 inb_S4x1024x4096_S1x1024x4096_0_0_0).set]{q} XG m ρ c))
        -∗ Q ⟨scl fsx fsw, X8 m ρ c⟩))
    ⊢ wp frame (wpE (defs₀ (F := F)) 𝒱₀ (c : Thread nD τ) none) Set.univ (wProg c v2) Q := by
  have hm0 := mayWait_low (F := F) c wsem0 (by decide) 6
  have hm1 := mayWait_low (F := F) c wsem1 (by decide) 6
  iintro ⟨⟨#Hlev, HO, Hs0, Hs1, Hw, Hw', Hs, Hs', Hh, Ha, Hsx, Hsw, Hg⟩, Hk⟩
  unfold wProg wStarts
  sl_exec
  have hG : ∀ p ∈ runW.sl.Hh_16 m ρ c, ∀ x, p.2 x = W8 m ρ c (p.1.emb x) := by
    sl_unfold_run_names
    intro p hp
    simp only [List.mem_cons, List.not_mem_nil, or_false] at hp
    rcases hp with rfl | rfl | rfl | rfl | rfl | rfl | rfl | rfl | rfl | rfl | rfl | rfl | rfl | rfl | rfl | rfl
    · exact wstore1 m ρ c 15 _ (off16_eq c) _ inb_S4096x2048_S256x2048_3840_0 _ _ _ _
    · exact wstore0 m ρ c 14 _ (off15_eq c) _ inb_S4096x2048_S256x2048_3584_0 _ _ _ _
    · exact wstore1 m ρ c 13 _ (off14_eq c) _ inb_S4096x2048_S256x2048_3328_0 _ _ _ _
    · exact wstore0 m ρ c 12 _ (off13_eq c) _ inb_S4096x2048_S256x2048_3072_0 _ _ _ _
    · exact wstore1 m ρ c 11 _ (off12_eq c) _ inb_S4096x2048_S256x2048_2816_0 _ _ _ _
    · exact wstore0 m ρ c 10 _ (off11_eq c) _ inb_S4096x2048_S256x2048_2560_0 _ _ _ _
    · exact wstore1 m ρ c 9 _ (off10_eq c) _ inb_S4096x2048_S256x2048_2304_0 _ _ _ _
    · exact wstore0 m ρ c 8 _ (off9_eq c) _ inb_S4096x2048_S256x2048_2048_0 _ _ _ _
    · exact wstore1 m ρ c 7 _ (off8_eq c) _ inb_S4096x2048_S256x2048_1792_0 _ _ _ _
    · exact wstore0 m ρ c 6 _ (off7_eq c) _ inb_S4096x2048_S256x2048_1536_0 _ _ _ _
    · exact wstore1 m ρ c 5 _ (off6_eq c) _ inb_S4096x2048_S256x2048_1280_0 _ _ _ _
    · exact wstore0 m ρ c 4 _ (off5_eq c) _ inb_S4096x2048_S256x2048_1024_0 _ _ _ _
    · exact wstore1 m ρ c 3 _ (off4_eq c) _ inb_S4096x2048_S256x2048_768_0 _ _ _ _
    · exact wstore0 m ρ c 2 _ (off3_eq c) _ inb_S4096x2048_S256x2048_512_0 _ _ _ _
    · exact wstore1 m ρ c 1 _ (off2_eq c) _ inb_S4096x2048_S256x2048_256_0 _ _ _ _
    · exact wstore0 m ρ c 0 _ (off1_eq c) _ inb_S4096x2048_S256x2048_0_0 _ _ _ _
  have hcov : ∀ y : S4096x2048.Idx, ∃ p ∈ runW.sl.Hh_16 m ρ c, y ∈ p.1.set := by
    sl_unfold_run_names
    exact View.cover_of_tiled _ S256x2048.size rfl
  have hH : ∀ f, hM.view.writes (Elt F) f (runW.sl.Hh_16 m ρ c) = W8 m ρ c := fun f => h_whole f _ _ hG hcov
  have h410 : runW.sl.v410 m ρ c = WH m ρ c 0 := by
    unfold runW.sl.v410 View.readCov
    rw [hH]
    exact wload0 m ρ c _
  have hX : k0_pay24 (View.readAt (Elt F) gM.view
      (Rect.unit (s := S4x1024x4096) ![0, 0, 0] S1x1024x4096.size inb_S4x1024x4096_S1x1024x4096_0_0_0).toLoadRect (XG m ρ c)) = X8 m ρ c :=
    (xload m ρ c 0 _ _).trans (by rw [at_zero])
  have hsc : k0_pay23 (runW.sl.r_2 fsx) (runW.sl.r_3 fsw) = scl fsx fsw := by
    refine congrArg₂ k0_pay23 ?_ ?_
    · unfold runW.sl.r_2; exact congrArg fsx (S1_one _ _)
    · unfold runW.sl.r_3; exact congrArg fsw (S1_one _ _)
  have hB : k0_pay25 (runW.sl.r_2 fsx) (runW.sl.r_3 fsw)
      (View.readAt (Elt F) gM.view (Rect.unit (s := S4x1024x4096) ![0, 0, 0] S1x1024x4096.size inb_S4x1024x4096_S1x1024x4096_0_0_0).toLoadRect (XG m ρ c))
      (runW.sl.v410 m ρ c) = B1 m ρ (scl fsx fsw) c c 0 := by
    rw [h410]
    exact (shapeCast_self _ _).trans (by rw [hsc]; exact b1_of m ρ (scl fsx fsw) c c 0 hX)
  rw [hH, hB, hX, hsc]
  rw [wp_ret]
  imodintro
  iapply Hk
  isplitl [HO]
  · iexists _; iexact HO
  isplitl [Hs0]
  · iexact Hs0
  isplitl [Hs1]
  · iexact Hs1
  isplitl [Hw]
  · iexact Hw
  isplitl [Hw']
  · iexact Hw'
  isplitl [Hs]
  · iexists _; iexact Hs
  isplitl [Hs']
  · iexists _; iexact Hs'
  isplitl [Hh]
  · iexact Hh
  isplitl [Ha]
  · iexact Ha
  isplitl [Hsx]
  · iexact Hsx
  isplitl [Hsw]
  · iexact Hsw
  iexact Hg

end Cert.KernelIdeal.Gather

end
-- ==== Proof.RunB.lean ====
/-
# The run, from the second half of the first block to the end

Each landing is awaited, what has to travel on is sent on, and the shard is multiplied; each finished block is copied to its
place in the result. In the end every copy is awaited, and the buffers and the semaphores are whole again.
-/
module

public import proofs.«01_k».proof.Proof.Remote

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- Everything from the second half of the first block on. -/
abbrev bProg (c : Dev nD) (v2 v4 v7 : BitVec 32) (v407 : F .f32) (v409 : FVec F S1024x4096 .fp8e4m3) : Prog (TpuEff nD τ sig (Elt F) Λ₀ .tc) PUnit := do
  k0_part16 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2 v4 v407 v409
  let ⟨v471, v475, v476⟩ : Σ' (v471 : FVec F S1024x4096 .fp8e4m3) (v475 : FVec F S1024x1024 .f32), FVec F S1024x1024 .f32 ← k0_part17 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v4 v407
  k0_part18 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2 v7 v407 v471 v475 v476
  k0_part19 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v7
  let v565 : BitVec 32 ← k0_part20 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v2 v407
  let v593 : FVec F S256x1024 .f32 ← k0_part21 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v4 v407
  let v623 : FVec F S256x1024 .f32 ← k0_part22 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v4 v407 v565 v593
  let ⟨v650, v651⟩ : Σ' (v650 : FVec F S256x4096 .fp8e4m3), Vec F S4096x1024 .fp8e4m3 ← k0_part23 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v4 v407 v565 v623
  k0_part24 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v4 v407 v565 v650 v651
  k0_part25 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c v407 v565
  k0_part26 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 c
  k0_part27 xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9
  let v757 : DmaSems sig S1 := cc0_scratch8.slice (Rect.unit (s := S8) ![6] S1.size inb_S8_S1_6)
  let v758 : DmaSems sig S_ := v757.squeeze S_ squeezes_S1_S_
  let v759 : Memref sig .tc .vmem S1x256x4096 .fp8e4m3 := gM.slice (Rect.unit (s := S4x1024x4096) ![1, 512, 0] S1x256x4096.size inb_S4x1024x4096_S1x256x4096_1_512_0) (fun _ => rfl)
  let v760 : Memref sig .tc .vmem S256x4096 .fp8e4m3 := v759.squeeze S256x4096 squeezes_S1x256x4096_S256x4096
  let v761 : Memref sig .tc .vmem S1x256x4096 .fp8e4m3 := gM.slice (Rect.unit (s := S4x1024x4096) ![2, 512, 0] S1x256x4096.size inb_S4x1024x4096_S1x256x4096_2_512_0) (fun _ => rfl)
  let v762 : Memref sig .tc .vmem S256x4096 .fp8e4m3 := v761.squeeze S256x4096 squeezes_S1x256x4096_S256x4096
  Prog.lift (.waitDma2 v758.sem v762 v760 (((Memref.isWhole_whole cc0_scratch0).wordExact_slice rfl _ wordsfp8e4m3_S4x1024x4096_S1x256x4096_2_512_0).reshape _ _) (((Memref.isWhole_whole cc0_scratch0).wordExact_slice rfl _ wordsfp8e4m3_S4x1024x4096_S1x256x4096_1_512_0).reshape _ _))
  let v763 : DmaSems sig S1 := cc0_scratch8.slice (Rect.unit (s := S8) ![7] S1.size inb_S8_S1_7)
  let v764 : DmaSems sig S_ := v763.squeeze S_ squeezes_S1_S_
  let v765 : Memref sig .tc .vmem S1x256x4096 .fp8e4m3 := gM.slice (Rect.unit (s := S4x1024x4096) ![1, 768, 0] S1x256x4096.size inb_S4x1024x4096_S1x256x4096_1_768_0) (fun _ => rfl)
  let v766 : Memref sig .tc .vmem S256x4096 .fp8e4m3 := v765.squeeze S256x4096 squeezes_S1x256x4096_S256x4096
  let v767 : Memref sig .tc .vmem S1x256x4096 .fp8e4m3 := gM.slice (Rect.unit (s := S4x1024x4096) ![2, 768, 0] S1x256x4096.size inb_S4x1024x4096_S1x256x4096_2_768_0) (fun _ => rfl)
  let v768 : Memref sig .tc .vmem S256x4096 .fp8e4m3 := v767.squeeze S256x4096 squeezes_S1x256x4096_S256x4096
  Prog.lift (.waitDma2 v764.sem v768 v766 (((Memref.isWhole_whole cc0_scratch0).wordExact_slice rfl _ wordsfp8e4m3_S4x1024x4096_S1x256x4096_2_768_0).reshape _ _) (((Memref.isWhole_whole cc0_scratch0).wordExact_slice rfl _ wordsfp8e4m3_S4x1024x4096_S1x256x4096_1_768_0).reshape _ _))
  pure ⟨⟩

/-- What the rest of the run starts from. -/
def preB (c : Dev nD) (sc : F .f32) (W : Waits sig Unit) (fa : S1024x2048.Idx → Elt F .f32) (fo : S4096x2048.Idx → Elt F .f32) : sProp 𝕄 :=
  iprop(facts m ρ K ∗ levAts L lv ∗ owes (c : Thread nD τ) (D c 6) W
    ∗ (atPos ER (dcell c ssem0) 0 ∅ 0 ∗ atPos ER (dcell c ssem1) 0 ∅ 0 ∗ atPos ER (dcell c ssem2) 0 ∅ 0 ∗ atPos ER (dcell c ssem3) 0 ∅ 0
      ∗ atPos ER (dcell c ssem4) 0 ∅ 0 ∗ atPos ER (dcell c ssem5) 0 ∅ 0 ∗ atPos ER (dcell c ssem6) 0 ∅ 0 ∗ atPos ER (dcell c ssem7) 0 ∅ 0)
    ∗ (atPos ER (dcell c rsem0) 0 ∅ 0 ∗ atPos ER (dcell c rsem1) 0 ∅ 0 ∗ atPos ER (dcell c rsem2) 0 ∅ 0 ∗ atPos ER (dcell c rsem3) 0 ∅ 0
      ∗ atPos ER (dcell c rsem4) 0 ∅ 0 ∗ atPos ER (dcell c rsem5) 0 ∅ 0 ∗ atPos ER (dcell c rsem6) 0 ∅ 0 ∗ atPos ER (dcell c rsem7) 0 ∅ 0)
    ∗ (cred (tallyAt (dcell c rsem0) () N512) ∗ cred (tallyAt (dcell c rsem1) () N512) ∗ cred (tallyAt (dcell c rsem2) () N512) ∗ cred (tallyAt (dcell c rsem3) () N512)
      ∗ cred (tallyAt (dcell c rsem4) () N256) ∗ cred (tallyAt (dcell c rsem5) () N256) ∗ cred (tallyAt (dcell c rsem6) () N256) ∗ cred (tallyAt (dcell c rsem7) () N256))
    ∗ (cred (tallyAt (dcell c ssem0) () N512) ∗ cred (tallyAt (dcell c ssem1) () N512) ∗ cred (tallyAt (dcell c ssem2) () N512) ∗ cred (tallyAt (dcell c ssem3) () N512))
    ∗ (dutyTok ER (dcell c ssem4) 0 false ∗ dutyTok ER (dcell c ssem5) 0 false ∗ dutyTok ER (dcell c ssem6) 0 false ∗ dutyTok ER (dcell c ssem7) 0 false)
    ∗ (dutyTok ER (dcell (nxt c) rsem4) 0 false ∗ dutyTok ER (dcell (nxt c) rsem5) 0 false ∗ dutyTok ER (dcell (prv c) rsem6) 0 false ∗ dutyTok ER (dcell (prv c) rsem7) 0 false)
    ∗ semVal ((c : Thread nD τ), .dma osem0) 0 ∗ semVal ((c : Thread nD τ), .dma osem1) 0
    ∗ gpt c (gs 0 0 512) fullShare.left (XG m ρ c) ∗ gpt c (gs 0 512 1024) fullShare.left (XG m ρ c)
    ∗ (∃ f, gpt (nxt c) (gs 2 0 256) fullShare f) ∗ (∃ f, gpt (nxt c) (gs 2 256 512) fullShare f)
    ∗ (∃ f, gpt (prv c) (gs 2 512 768) fullShare f) ∗ (∃ f, gpt (prv c) (gs 2 768 1024) fullShare f)
    ∗ (hM.view.loc (c : Thread nD τ) ↦{fullShare} W8 m ρ c)
    ∗ (aM.view.loc (c : Thread nD τ) ↦{fullShare} aM.view.writes (Elt F) fa
            [⟨Rect.unit (s := S1024x2048) ![0, 0] S1024x1024.size inb_S1024x2048_S1024x1024_0_0, B1 m ρ sc c c 0⟩])
    ∗ (oM.view.loc (c : Thread nD τ) ↦{fullShare} fo))
/-- What it ends with. -/
def postB (c : Dev nD) (sc : F .f32) : sProp 𝕄 :=
  iprop((∃ W', owes (c : Thread nD τ) 0 W')
    ∗ (semVal (dcell c ssem0) 0 ∗ semVal (dcell c ssem1) 0 ∗ semVal (dcell c ssem2) 0 ∗ semVal (dcell c ssem3) 0
      ∗ semVal (dcell c ssem4) 0 ∗ semVal (dcell c ssem5) 0 ∗ semVal (dcell c ssem6) 0 ∗ semVal (dcell c ssem7) 0)
    ∗ (semVal (dcell c rsem0) 0 ∗ semVal (dcell c rsem1) 0 ∗ semVal (dcell c rsem2) 0 ∗ semVal (dcell c rsem3) 0
      ∗ semVal (dcell c rsem4) 0 ∗ semVal (dcell c rsem5) 0 ∗ semVal (dcell c rsem6) 0 ∗ semVal (dcell c rsem7) 0)
    ∗ semVal ((c : Thread nD τ), .dma osem0) 0 ∗ semVal ((c : Thread nD τ), .dma osem1) 0
    ∗ gpt c Finset.univ fullShare (XG m ρ c)
    ∗ (hM.view.loc (c : Thread nD τ) ↦{fullShare} W8 m ρ c) ∗ (∃ f, aM.view.loc (c : Thread nD τ) ↦{fullShare} f)
    ∗ (oM.view.loc (c : Thread nD τ) ↦{fullShare} OUT m ρ sc c))

set_option maxHeartbeats 1000000 in
theorem runB (c : Dev nD) (v2 v4 v7 : BitVec 32) (sc : F .f32) (W : Waits sig Unit) (fa : S1024x2048.Idx → Elt F .f32) (fo : S4096x2048.Idx → Elt F .f32)
    (Q : PUnit → sProp 𝕄) :
    iprop(preB m ρ K c sc W fa fo ∗ (postB m ρ c sc -∗ Q ⟨⟩))
    ⊢ wp frame (wpE (defs₀ (F := F)) 𝒱₀ (c : Thread nD τ) none) Set.univ (bProg c v2 v4 v7 sc (X8 m ρ c)) Q := by
  have hm8 := mayWait_low (F := F) c osem0 (by decide) 8
  have hm10 := mayWait_low (F := F) c osem0 (by decide) 10
  have hm11 := mayWait_low (F := F) c osem1 (by decide) 10
  unfold bProg
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret]
  unfold preB
  iintro ⟨⟨#HF, #Hlev, HO, ⟨HaS0, HaS1, HaS2, HaS3, HaS4, HaS5, HaS6, HaS7⟩, ⟨HaR0, HaR1, HaR2, HaR3, HaR4, HaR5, HaR6, HaR7⟩,
    ⟨HcR0, HcR1, HcR2, HcR3, HcR4, HcR5, HcR6, HcR7⟩, ⟨HcS0, HcS1, HcS2, HcS3⟩, ⟨Ht4, Ht5, Ht6, Ht7⟩, ⟨Hr4, Hr5, Hr6, Hr7⟩,
    Hs0, Hs1, H0Tk, H0Bk, Hn2a, Hn2b, Hp2c, Hp2d, Hh, Ha, Ho⟩, Hk⟩
  sl_exec
  iapply (wp_done512 m ρ K c rsem0 (by decide) rfl (D c 6) _) $$ [HcR0 HO HaR0]
  · isplitr; · iexact HF
    isplitl [HcR0]; · iexact HcR0
    isplitl [HO]; · iexact HO
    isplitr; · iapply (mayWait_land c rsem0 (by decide) (by decide) 6 (by decide)); iexact Hlev
    iexact HaR0
  iintro ⟨⟨%WR0, HO⟩, HzR0, H3T⟩
  ihave H3T := (Entails.of_eq (show xferPay m ρ c rsem0.val = gpt c (gs 3 0 512) fullShare (XG m ρ c) from rfl)) $$ H3T
  ihave H3T := (lend_half c 3 0 256 512 (by decide) (by decide) (XG m ρ c)) $$ H3T
  icases H3T with ⟨H3Tk, H3a, H3b⟩
  iapply (wp_send256 m ρ K c _ (nxt c) (dev7_eq c) 3 2 0 256 rfl (by rw [at_at, at_congr c (s := 1 + 2) (t := 3) rfl]) fullShare.right ssem4 rsem4
      (by decide) (by decide) rfl rfl rfl rfl (D c 7)) $$ [H3a Hn2a HO Ht4 Hr4]
  · isplitr; · iexact HF
    isplitl [H3a]; · iexact H3a
    isplitl [Hn2a]; · iexact Hn2a
    isplitl [HO]; · iexact HO
    isplitl [Ht4] <;> iassumption
  iintro ⟨HcS4, HO⟩
  iapply (wp_send256 m ρ K c _ (nxt c) (dev8_eq c) 3 2 256 512 rfl (by rw [at_at, at_congr c (s := 1 + 2) (t := 3) rfl]) fullShare.right ssem5 rsem5
      (by decide) (by decide) rfl rfl rfl rfl (D c 8)) $$ [H3b Hn2b HO Ht5 Hr5]
  · isplitr; · iexact HF
    isplitl [H3b]; · iexact H3b
    isplitl [Hn2b]; · iexact Hn2b
    isplitl [HO]; · iexact HO
    isplitl [Ht5] <;> iassumption
  iintro ⟨HcS5, HO⟩
  iapply (wp_done512 m ρ K c rsem1 (by decide) rfl (D c 8) _) $$ [HcR1 HO HaR1]
  · isplitr; · iexact HF
    isplitl [HcR1]; · iexact HcR1
    isplitl [HO]; · iexact HO
    isplitr; · iapply (mayWait_land c rsem1 (by decide) (by decide) 8 (by decide)); iexact Hlev
    iexact HaR1
  iintro ⟨⟨%WR1, HO⟩, HzR1, H3B⟩
  ihave H3B := (Entails.of_eq (show xferPay m ρ c rsem1.val = gpt c (gs 3 512 1024) fullShare (XG m ρ c) from rfl)) $$ H3B
  ihave H3B := (gpt_halve (F := F)).1 $$ H3B
  icases H3B with ⟨H3Bk, H3Br⟩
  ihave Hg3 := (slot_ready c 3 inb_S4x1024x4096_S1x1024x4096_3_0_0 fullShare.left (XG m ρ c)) $$ [H3Tk H3Bk]
  · isplitl [H3Tk] <;> iassumption
  sl_exec
  ihave Hg3 := (slot_back c 3 inb_S4x1024x4096_S1x1024x4096_3_0_0 fullShare.left (XG m ρ c)) $$ Hg3
  iapply (wp_done512 m ρ K c rsem2 (by decide) rfl (D c 8) _) $$ [HcR2 HO HaR2]
  · isplitr; · iexact HF
    isplitl [HcR2]; · iexact HcR2
    isplitl [HO]; · iexact HO
    isplitr; · iapply (mayWait_land c rsem2 (by decide) (by decide) 8 (by decide)); iexact Hlev
    iexact HaR2
  iintro ⟨⟨%WR2, HO⟩, HzR2, H1B⟩
  ihave H1B := (Entails.of_eq (show xferPay m ρ c rsem2.val = gpt c (gs 1 512 1024) fullShare (XG m ρ c) from rfl)) $$ H1B
  ihave H1B := (lend_half c 1 512 768 1024 (by decide) (by decide) (XG m ρ c)) $$ H1B
  icases H1B with ⟨H1Bk, H1c, H1d⟩
  iapply (wp_send256 m ρ K c _ (prv c) (dev9_eq c) 1 2 512 768 rfl (by rw [at_at, at_congr c (s := 3 + 2) (t := 1) rfl]) fullShare.right ssem6 rsem6
      (by decide) (by decide) rfl rfl rfl rfl (D c 9)) $$ [H1c Hp2c HO Ht6 Hr6]
  · isplitr; · iexact HF
    isplitl [H1c]; · iexact H1c
    isplitl [Hp2c]; · iexact Hp2c
    isplitl [HO]; · iexact HO
    isplitl [Ht6] <;> iassumption
  iintro ⟨HcS6, HO⟩
  iapply (wp_send256 m ρ K c _ (prv c) (dev10_eq c) 1 2 768 1024 rfl (by rw [at_at, at_congr c (s := 3 + 2) (t := 1) rfl]) fullShare.right ssem7 rsem7
      (by decide) (by decide) rfl rfl rfl rfl (D c 10)) $$ [H1d Hp2d HO Ht7 Hr7]
  · isplitr; · iexact HF
    isplitl [H1d]; · iexact H1d
    isplitl [Hp2d]; · iexact Hp2d
    isplitl [HO]; · iexact HO
    isplitl [Ht7] <;> iassumption
  iintro ⟨HcS7, HO⟩
  iapply (wp_done512 m ρ K c rsem3 (by decide) rfl (D c 10) _) $$ [HcR3 HO HaR3]
  · isplitr; · iexact HF
    isplitl [HcR3]; · iexact HcR3
    isplitl [HO]; · iexact HO
    isplitr; · rw [show D c 10 = 0 from rfl, MayWait_zero]; iempintro
    iexact HaR3
  iintro ⟨⟨%WR3, HO⟩, HzR3, H1T⟩
  ihave H1T := (Entails.of_eq (show xferPay m ρ c rsem3.val = gpt c (gs 1 0 512) fullShare (XG m ρ c) from rfl)) $$ H1T
  ihave H1T := (gpt_halve (F := F)).1 $$ H1T
  icases H1T with ⟨H1Tk, H1Tr⟩
  ihave Hg1 := (slot_ready c 1 inb_S4x1024x4096_S1x1024x4096_1_0_0 fullShare.left (XG m ρ c)) $$ [H1Tk H1Bk]
  · isplitl [H1Tk] <;> iassumption
  sl_exec
  ihave Hg1 := (slot_back c 1 inb_S4x1024x4096_S1x1024x4096_1_0_0 fullShare.left (XG m ρ c)) $$ Hg1
  iapply (wp_done256 m ρ K c rsem4 (by decide) rfl (D c 10) _) $$ [HcR4 HO HaR4]
  · isplitr; · iexact HF
    isplitl [HcR4]; · iexact HcR4
    isplitl [HO]; · iexact HO
    isplitr; · rw [show D c 10 = 0 from rfl, MayWait_zero]; iempintro
    iexact HaR4
  iintro ⟨⟨%WR4, HO⟩, HzR4, H2a⟩
  ihave H2a := (Entails.of_eq (show xferPay m ρ c rsem4.val = gpt c (gs 2 0 256) fullShare (XG m ρ c) from rfl)) $$ H2a
  ihave H2a := (Entails.of_eq (quarter_eq c 2 0 inb_S4x1024x4096_S1x256x4096_2_0_0 fullShare (XG m ρ c))) $$ H2a
  sl_exec
  ihave H2a := (Entails.of_eq (quarter_eq c 2 0 inb_S4x1024x4096_S1x256x4096_2_0_0 fullShare (XG m ρ c)).symm) $$ H2a
  iapply (wp_done256 m ρ K c rsem6 (by decide) rfl (D c 10) _) $$ [HcR6 HO HaR6]
  · isplitr; · iexact HF
    isplitl [HcR6]; · iexact HcR6
    isplitl [HO]; · iexact HO
    isplitr; · rw [show D c 10 = 0 from rfl, MayWait_zero]; iempintro
    iexact HaR6
  iintro ⟨⟨%WR6, HO⟩, HzR6, H2c⟩
  ihave H2c := (Entails.of_eq (show xferPay m ρ c rsem6.val = gpt c (gs 2 512 768) fullShare (XG m ρ c) from rfl)) $$ H2c
  ihave H2c := (Entails.of_eq (quarter_eq c 2 512 inb_S4x1024x4096_S1x256x4096_2_512_0 fullShare (XG m ρ c))) $$ H2c
  sl_exec
  ihave H2c := (Entails.of_eq (quarter_eq c 2 512 inb_S4x1024x4096_S1x256x4096_2_512_0 fullShare (XG m ρ c)).symm) $$ H2c
  iapply (wp_done256 m ρ K c rsem5 (by decide) rfl (D c 10) _) $$ [HcR5 HO HaR5]
  · isplitr; · iexact HF
    isplitl [HcR5]; · iexact HcR5
    isplitl [HO]; · iexact HO
    isplitr; · rw [show D c 10 = 0 from rfl, MayWait_zero]; iempintro
    iexact HaR5
  iintro ⟨⟨%WR5, HO⟩, HzR5, H2b⟩
  ihave H2b := (Entails.of_eq (show xferPay m ρ c rsem5.val = gpt c (gs 2 256 512) fullShare (XG m ρ c) from rfl)) $$ H2b
  ihave H2b := (Entails.of_eq (quarter_eq c 2 256 inb_S4x1024x4096_S1x256x4096_2_256_0 fullShare (XG m ρ c))) $$ H2b
  sl_exec
  ihave H2b := (Entails.of_eq (quarter_eq c 2 256 inb_S4x1024x4096_S1x256x4096_2_256_0 fullShare (XG m ρ c)).symm) $$ H2b
  iapply (wp_done256 m ρ K c rsem7 (by decide) rfl (D c 10) _) $$ [HcR7 HO HaR7]
  · isplitr; · iexact HF
    isplitl [HcR7]; · iexact HcR7
    isplitl [HO]; · iexact HO
    isplitr; · rw [show D c 10 = 0 from rfl, MayWait_zero]; iempintro
    iexact HaR7
  iintro ⟨⟨%WR7, HO⟩, HzR7, H2d⟩
  ihave H2d := (Entails.of_eq (show xferPay m ρ c rsem7.val = gpt c (gs 2 768 1024) fullShare (XG m ρ c) from rfl)) $$ H2d
  ihave H2d := (Entails.of_eq (quarter_eq c 2 768 inb_S4x1024x4096_S1x256x4096_2_768_0 fullShare (XG m ρ c))) $$ H2d
  sl_exec
  ihave H2d := (Entails.of_eq (quarter_eq c 2 768 inb_S4x1024x4096_S1x256x4096_2_768_0 fullShare (XG m ρ c)).symm) $$ H2d
  iapply (wp_done512 m ρ K c ssem0 (by decide) rfl (D c 10) _) $$ [HcS0 HO HaS0]
  · isplitr; · iexact HF
    isplitl [HcS0]; · iexact HcS0
    isplitl [HO]; · iexact HO
    isplitr; · rw [show D c 10 = 0 from rfl, MayWait_zero]; iempintro
    iexact HaS0
  iintro ⟨⟨%WS0, HO⟩, HzS0, HL0⟩
  ihave HL0 := (Entails.of_eq (show xferPay m ρ c ssem0.val = gpt c (gs 0 0 512) fullShare.right.left (XG m ρ c) from rfl)) $$ HL0
  iapply (wp_done512 m ρ K c ssem1 (by decide) rfl (D c 10) _) $$ [HcS1 HO HaS1]
  · isplitr; · iexact HF
    isplitl [HcS1]; · iexact HcS1
    isplitl [HO]; · iexact HO
    isplitr; · rw [show D c 10 = 0 from rfl, MayWait_zero]; iempintro
    iexact HaS1
  iintro ⟨⟨%WS1, HO⟩, HzS1, HL1⟩
  ihave HL1 := (Entails.of_eq (show xferPay m ρ c ssem1.val = gpt c (gs 0 512 1024) fullShare.right.left (XG m ρ c) from rfl)) $$ HL1
  iapply (wp_done512 m ρ K c ssem2 (by decide) rfl (D c 10) _) $$ [HcS2 HO HaS2]
  · isplitr; · iexact HF
    isplitl [HcS2]; · iexact HcS2
    isplitl [HO]; · iexact HO
    isplitr; · rw [show D c 10 = 0 from rfl, MayWait_zero]; iempintro
    iexact HaS2
  iintro ⟨⟨%WS2, HO⟩, HzS2, HL2⟩
  ihave HL2 := (Entails.of_eq (show xferPay m ρ c ssem2.val = gpt c (gs 0 512 1024) fullShare.right.right (XG m ρ c) from rfl)) $$ HL2
  iapply (wp_done512 m ρ K c ssem3 (by decide) rfl (D c 10) _) $$ [HcS3 HO HaS3]
  · isplitr; · iexact HF
    isplitl [HcS3]; · iexact HcS3
    isplitl [HO]; · iexact HO
    isplitr; · rw [show D c 10 = 0 from rfl, MayWait_zero]; iempintro
    iexact HaS3
  iintro ⟨⟨%WS3, HO⟩, HzS3, HL3⟩
  ihave HL3 := (Entails.of_eq (show xferPay m ρ c ssem3.val = gpt c (gs 0 0 512) fullShare.right.right (XG m ρ c) from rfl)) $$ HL3
  iapply (wp_done256 m ρ K c ssem4 (by decide) rfl (D c 10) _) $$ [HcS4 HO HaS4]
  · isplitr; · iexact HF
    isplitl [HcS4]; · iexact HcS4
    isplitl [HO]; · iexact HO
    isplitr; · rw [show D c 10 = 0 from rfl, MayWait_zero]; iempintro
    iexact HaS4
  iintro ⟨⟨%WS4, HO⟩, HzS4, HL4⟩
  ihave HL4 := (Entails.of_eq (show xferPay m ρ c ssem4.val = gpt c (gs 3 0 256) fullShare.right (XG m ρ c) from rfl)) $$ HL4
  iapply (wp_done256 m ρ K c ssem5 (by decide) rfl (D c 10) _) $$ [HcS5 HO HaS5]
  · isplitr; · iexact HF
    isplitl [HcS5]; · iexact HcS5
    isplitl [HO]; · iexact HO
    isplitr; · rw [show D c 10 = 0 from rfl, MayWait_zero]; iempintro
    iexact HaS5
  iintro ⟨⟨%WS5, HO⟩, HzS5, HL5⟩
  ihave HL5 := (Entails.of_eq (show xferPay m ρ c ssem5.val = gpt c (gs 3 256 512) fullShare.right (XG m ρ c) from rfl)) $$ HL5
  iapply (wp_done256 m ρ K c ssem6 (by decide) rfl (D c 10) _) $$ [HcS6 HO HaS6]
  · isplitr; · iexact HF
    isplitl [HcS6]; · iexact HcS6
    isplitl [HO]; · iexact HO
    isplitr; · rw [show D c 10 = 0 from rfl, MayWait_zero]; iempintro
    iexact HaS6
  iintro ⟨⟨%WS6, HO⟩, HzS6, HL6⟩
  ihave HL6 := (Entails.of_eq (show xferPay m ρ c ssem6.val = gpt c (gs 1 512 768) fullShare.right (XG m ρ c) from rfl)) $$ HL6
  iapply (wp_done256 m ρ K c ssem7 (by decide) rfl (D c 10) _) $$ [HcS7 HO HaS7]
  · isplitr; · iexact HF
    isplitl [HcS7]; · iexact HcS7
    isplitl [HO]; · iexact HO
    isplitr; · rw [show D c 10 = 0 from rfl, MayWait_zero]; iempintro
    iexact HaS7
  iintro ⟨⟨%WS7, HO⟩, HzS7, HL7⟩
  ihave HL7 := (Entails.of_eq (show xferPay m ρ c ssem7.val = gpt c (gs 1 768 1024) fullShare.right (XG m ρ c) from rfl)) $$ HL7
  have h0 : runB.sl.dma3 m ρ c sc fa = ACC1 m ρ sc c c := by
    unfold runB.sl.dma3
    exact acc_full m ρ sc c c fa [] (gem1_1 m ρ sc c c rfl _ _) rfl _ _
  have h3 : runB.sl.dma7 m ρ c sc fa = ACC1 m ρ sc c (at_ c 3) := by
    unfold runB.sl.dma7
    exact acc_full m ρ sc c (at_ c 3) fa _ (gem1_1 m ρ sc c (at_ c 3) (xload m ρ c 3 _ _) _ _) (gem1_0 m ρ sc c (at_ c 3) (xload m ρ c 3 _ _) _ _) _ _
  have h1 : runB.sl.dma7_1 m ρ c sc fa = ACC1 m ρ sc c (at_ c 1) := by
    unfold runB.sl.dma7_1
    exact acc_full m ρ sc c (at_ c 1) fa _ (gem1_1 m ρ sc c (at_ c 1) (xload m ρ c 1 _ _) _ _) (gem1_0 m ρ sc c (at_ c 1) (xload m ρ c 1 _ _) _ _) _ _
  have k0 : ∀ y, runB.sl.dma7_2 m ρ c sc fa y = ACC2 m ρ sc c ((Rect.unit (s := S1024x2048) ![0, 0] S256x2048.size inb_S1024x2048_S256x2048_0_0).emb y) := by
    unfold runB.sl.dma7_2
    exact acc_quarter m ρ sc c 0 fa _ (gem2_1 m ρ sc c (at_ c 2) 0 (xqload m ρ c 2 0 (by decide) _ _) _ _) (gem2_0 m ρ sc c (at_ c 2) 0 (xqload m ρ c 2 0 (by decide) _ _) _ _) _ _ _
  have k2 : ∀ y, runB.sl.dma7_3 m ρ c sc fa y = ACC2 m ρ sc c ((Rect.unit (s := S1024x2048) ![512, 0] S256x2048.size inb_S1024x2048_S256x2048_512_0).emb y) := by
    unfold runB.sl.dma7_3
    exact acc_quarter m ρ sc c 2 fa _ (gem2_1 m ρ sc c (at_ c 2) 512 (xqload m ρ c 2 512 (by decide) _ _) _ _) (gem2_0 m ρ sc c (at_ c 2) 512 (xqload m ρ c 2 512 (by decide) _ _) _ _) _ _ _
  have k1 : ∀ y, runB.sl.dma7_4 m ρ c sc fa y = ACC2 m ρ sc c ((Rect.unit (s := S1024x2048) ![256, 0] S256x2048.size inb_S1024x2048_S256x2048_256_0).emb y) := by
    unfold runB.sl.dma7_4
    exact acc_quarter m ρ sc c 1 fa _ (gem2_1 m ρ sc c (at_ c 2) 256 (xqload m ρ c 2 256 (by decide) _ _) _ _) (gem2_0 m ρ sc c (at_ c 2) 256 (xqload m ρ c 2 256 (by decide) _ _) _ _) _ _ _
  have k3 : ∀ y, runB.sl.dma7_5 m ρ c sc fa y = ACC2 m ρ sc c ((Rect.unit (s := S1024x2048) ![768, 0] S256x2048.size inb_S1024x2048_S256x2048_768_0).emb y) := by
    unfold runB.sl.dma7_5
    exact acc_quarter m ρ sc c 3 fa _ (gem2_1 m ρ sc c (at_ c 2) 768 (xqload m ρ c 2 768 (by decide) _ _) _ _) (gem2_0 m ρ sc c (at_ c 2) 768 (xqload m ρ c 2 768 (by decide) _ _) _ _) _ _ _
  have hO : runB.sl.Ho_w0_6 m ρ c sc fa fo = OUT m ρ sc c := by
    unfold runB.sl.Ho_w0_6 runB.sl.Ho_w0_5 runB.sl.Ho_w0_4 runB.sl.Ho_w0_3 runB.sl.Ho_w0_2 runB.sl.Ho_w0_1 runB.sl.Ho_w0
    exact out_final m ρ sc c fo _ _ _ _ _ _ _ (off17_0_eq c) (off17_3_eq c) (off17_1_eq c) (off18_0_eq c) (off18_2_eq c) (off18_1_eq c) (off18_3_eq c)
      _ _ _ _ _ _ _ h0 h3 h1 k0 k2 k1 k3
  rw [hO]
  ihave H0T := (gpt_halve (q := fullShare.right)).2 $$ [HL0 HL3]
  · isplitl [HL0] <;> iassumption
  ihave H0T := (gpt_halve (q := fullShare)).2 $$ [H0Tk H0T]
  · isplitl [H0Tk] <;> iassumption
  ihave H0B := (gpt_halve (q := fullShare.right)).2 $$ [HL1 HL2]
  · isplitl [HL1] <;> iassumption
  ihave H0B := (gpt_halve (q := fullShare)).2 $$ [H0Bk H0B]
  · isplitl [H0Bk] <;> iassumption
  ihave H0 := (gpt_cut (c := c) (s := 0) (lo := 0) (hi := 1024) (q := fullShare) (f := XG m ρ c) 512 (by decide) (by decide)).2 $$ [H0T H0B]
  · isplitl [H0T] <;> iassumption
  ihave H3T := (gpt_cut (c := c) (s := 3) (lo := 0) (hi := 512) (q := fullShare.right) (f := XG m ρ c) 256 (by decide) (by decide)).2 $$ [HL4 HL5]
  · isplitl [HL4] <;> iassumption
  ihave H3r := (gpt_cut (c := c) (s := 3) (lo := 0) (hi := 1024) (q := fullShare.right) (f := XG m ρ c) 512 (by decide) (by decide)).2 $$ [H3T H3Br]
  · isplitl [H3T] <;> iassumption
  ihave H3 := (gpt_halve (q := fullShare)).2 $$ [Hg3 H3r]
  · isplitl [Hg3] <;> iassumption
  ihave H1B := (gpt_cut (c := c) (s := 1) (lo := 512) (hi := 1024) (q := fullShare.right) (f := XG m ρ c) 768 (by decide) (by decide)).2 $$ [HL6 HL7]
  · isplitl [HL6] <;> iassumption
  ihave H1r := (gpt_cut (c := c) (s := 1) (lo := 0) (hi := 1024) (q := fullShare.right) (f := XG m ρ c) 512 (by decide) (by decide)).2 $$ [H1Tr H1B]
  · isplitl [H1Tr] <;> iassumption
  ihave H1 := (gpt_halve (q := fullShare)).2 $$ [Hg1 H1r]
  · isplitl [Hg1] <;> iassumption
  ihave H2T := (gpt_cut (c := c) (s := 2) (lo := 0) (hi := 512) (q := fullShare) (f := XG m ρ c) 256 (by decide) (by decide)).2 $$ [H2a H2b]
  · isplitl [H2a] <;> iassumption
  ihave H2B := (gpt_cut (c := c) (s := 2) (lo := 512) (hi := 1024) (q := fullShare) (f := XG m ρ c) 768 (by decide) (by decide)).2 $$ [H2c H2d]
  · isplitl [H2c] <;> iassumption
  ihave H2 := (gpt_cut (c := c) (s := 2) (lo := 0) (hi := 1024) (q := fullShare) (f := XG m ρ c) 512 (by decide) (by decide)).2 $$ [H2T H2B]
  · isplitl [H2T] <;> iassumption
  rw [wp_ret]
  imodintro
  iapply Hk
  unfold postB
  isplitl [HO]; · iexists WS7; iexact HO
  isplitl [HzS0 HzS1 HzS2 HzS3 HzS4 HzS5 HzS6 HzS7]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    iexact HzS7
  isplitl [HzR0 HzR1 HzR2 HzR3 HzR4 HzR5 HzR6 HzR7]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    iexact HzR7
  isplitl [Hs0]; · iexact Hs0
  isplitl [Hs1]; · iexact Hs1
  isplitl [H0 H1 H2 H3]
  · iapply (gpt_slots (q := fullShare)).2
    isplitl [H0]; · iexact H0
    isplitl [H1]; · iexact H1
    isplitl [H2]; · iexact H2
    iexact H3
  isplitl [Hh]; · iexact Hh
  isplitl [Ha]; · iexists _; iexact Ha
  iexact Ho

end Cert.KernelIdeal.Gather

end
-- ==== Proof.Body.lean ====
/-
# The kernel's body

The body of the kernel on one device, put together from its three parts: the quantised shard and the first sends, the right
operand's columns, and the products. The buffers that the parts hold in pieces are cut here before the first part, and put
together after the last.
-/
module

public import proofs.«01_k».proof.Proof.RunX
public import proofs.«01_k».proof.Proof.RunW
public import proofs.«01_k».proof.Proof.RunB

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The program is its three parts -/

theorem part5_eq (d : Dev nD) (v2 v7 : BitVec 32) :
    k0_part5 (F := F) xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9 d v2 v7 = (sendsL d >>= fun _ => wStarts d) := rfl

/-- The body on the buffers it is called with. -/
abbrev bodyProg : Prog (TpuEff nD τ sig (Elt F) Λ₀ .tc) PUnit :=
  cc0_body xM (Memref.isWhole_whole _) wM (Memref.isWhole_whole _) sxM (Memref.isWhole_whole _) swM (Memref.isWhole_whole _) oM (Memref.isWhole_whole _) gM (Memref.isWhole_whole _) hM (Memref.isWhole_whole _) xsM (Memref.isWhole_whole _) wsM (Memref.isWhole_whole _) aM (Memref.isWhole_whole _) cc0_scratch5 cc0_scratch6 cc0_scratch7 cc0_scratch8 cc0_scratch9

theorem body_eq : bodyProg (F := F) = (xProg >>= fun a => wProg a.1 a.2.1 >>= fun b => bProg a.1 a.2.1 a.2.2.1 a.2.2.2 b.1 b.2) := by
  unfold bodyProg
  rw [cc0_body_eq_skeleton]
  unfold cc0_body_skel
  simp only [xProg, wProg, bProg, part5_eq, Prog.bind_assoc, pure_bind]

/-! ## Cutting the buffers -/

theorem x_set0 : (xsW0.view.set : Finset S2x256x4096.Idx) = (Rect.unit (s := S2x256x4096) ![0, 0, 0] S1x256x4096.size inb_S2x256x4096_S1x256x4096_0_0_0).set :=
  (View.set_reshape _ _).trans (View.set_slice_whole _ _)
theorem x_set1 : (xsW1.view.set : Finset S2x256x4096.Idx) = (Rect.unit (s := S2x256x4096) ![1, 0, 0] S1x256x4096.size inb_S2x256x4096_S1x256x4096_1_0_0).set :=
  (View.set_reshape _ _).trans (View.set_slice_whole _ _)
theorem x_disj : Disjoint (xsW0.view.set : Finset S2x256x4096.Idx) xsW1.view.set := by
  rw [x_set0, x_set1, Finset.disjoint_left]
  intro i hi hj
  rw [Rect.mem_set_unit] at hi hj
  have h0 := hi 0; have h1 := hj 0
  simp at h0 h1; omega
theorem x_cover : (xsW0.view.set : Finset S2x256x4096.Idx) ∪ xsW1.view.set = Finset.univ := by
  rw [x_set0, x_set1, Finset.eq_univ_iff_forall]
  intro i
  have h0 : (i 0).val < 2 := (i 0).isLt
  have h1 : (i 1).val < 256 := (i 1).isLt
  have h2 : (i 2).val < 4096 := (i 2).isLt
  rw [Finset.mem_union, Rect.mem_set_unit, Rect.mem_set_unit]
  by_cases h : (i 0).val = 0
  · left; intro a; fin_cases a <;> simp <;> omega
  · right; intro a; fin_cases a <;> simp <;> omega
/-- The staging buffer cut into its two slots, and put together again. -/
theorem x_cut (c : Dev nD) (f : S2x256x4096.Idx → Elt F .f32) :
    (xsM.view.loc (c : Thread nD τ) ↦{fullShare} f : sProp 𝕄)
      ⊢ iprop((xsW0.view.loc (c : Thread nD τ) ↦[xsW0.view.set]{fullShare} f) ∗ (xsW1.view.loc (c : Thread nD τ) ↦[xsW1.view.set]{fullShare} f)) := by
  rw [show (xsM.view.loc (c : Thread nD τ) ↦{fullShare} f : sProp 𝕄) = (xsM.view.loc (c : Thread nD τ) ↦[xsW0.view.set ∪ xsW1.view.set]{fullShare} f) from by rw [x_cover]]
  exact (pointsTo_union (ℓ := xsM.view.loc (c : Thread nD τ)) (q := fullShare) (f := f) x_disj).1
theorem x_join (c : Dev nD) :
    (iprop((∃ f, xsW0.view.loc (c : Thread nD τ) ↦[xsW0.view.set]{fullShare} f) ∗ (∃ f, xsW1.view.loc (c : Thread nD τ) ↦[xsW1.view.set]{fullShare} f)) : sProp 𝕄)
      ⊢ iprop(∃ f, xsM.view.loc (c : Thread nD τ) ↦{fullShare} f) := by
  iintro ⟨⟨%f, H⟩, ⟨%g, H'⟩⟩
  ihave H := (pointsTo_join (ℓ := xsM.view.loc (c : Thread nD τ)) (q := fullShare) (f := f) (g := g) x_disj) $$ [H H']
  · isplitl [H] <;> iassumption
  rw [x_cover]
  iexists _; iexact H

theorem w_set0 : (wsW0.view.set : Finset S2x256x2048.Idx) = (Rect.unit (s := S2x256x2048) ![0, 0, 0] S1x256x2048.size inb_S2x256x2048_S1x256x2048_0_0_0).set :=
  (View.set_reshape _ _).trans (View.set_slice_whole _ _)
theorem w_set1 : (wsW1.view.set : Finset S2x256x2048.Idx) = (Rect.unit (s := S2x256x2048) ![1, 0, 0] S1x256x2048.size inb_S2x256x2048_S1x256x2048_1_0_0).set :=
  (View.set_reshape _ _).trans (View.set_slice_whole _ _)
theorem w_disj : Disjoint (wsW0.view.set : Finset S2x256x2048.Idx) wsW1.view.set := by
  rw [w_set0, w_set1, Finset.disjoint_left]
  intro i hi hj
  rw [Rect.mem_set_unit] at hi hj
  have h0 := hi 0; have h1 := hj 0
  simp at h0 h1; omega
theorem w_cover : (wsW0.view.set : Finset S2x256x2048.Idx) ∪ wsW1.view.set = Finset.univ := by
  rw [w_set0, w_set1, Finset.eq_univ_iff_forall]
  intro i
  have h0 : (i 0).val < 2 := (i 0).isLt
  have h1 : (i 1).val < 256 := (i 1).isLt
  have h2 : (i 2).val < 2048 := (i 2).isLt
  rw [Finset.mem_union, Rect.mem_set_unit, Rect.mem_set_unit]
  by_cases h : (i 0).val = 0
  · left; intro a; fin_cases a <;> simp <;> omega
  · right; intro a; fin_cases a <;> simp <;> omega
/-- The staging buffer cut into its two slots, and put together again. -/
theorem w_cut (c : Dev nD) (f : S2x256x2048.Idx → Elt F .f32) :
    (wsM.view.loc (c : Thread nD τ) ↦{fullShare} f : sProp 𝕄)
      ⊢ iprop((wsW0.view.loc (c : Thread nD τ) ↦[wsW0.view.set]{fullShare} f) ∗ (wsW1.view.loc (c : Thread nD τ) ↦[wsW1.view.set]{fullShare} f)) := by
  rw [show (wsM.view.loc (c : Thread nD τ) ↦{fullShare} f : sProp 𝕄) = (wsM.view.loc (c : Thread nD τ) ↦[wsW0.view.set ∪ wsW1.view.set]{fullShare} f) from by rw [w_cover]]
  exact (pointsTo_union (ℓ := wsM.view.loc (c : Thread nD τ)) (q := fullShare) (f := f) w_disj).1
theorem w_join (c : Dev nD) :
    (iprop((∃ f, wsW0.view.loc (c : Thread nD τ) ↦[wsW0.view.set]{fullShare} f) ∗ (∃ f, wsW1.view.loc (c : Thread nD τ) ↦[wsW1.view.set]{fullShare} f)) : sProp 𝕄)
      ⊢ iprop(∃ f, wsM.view.loc (c : Thread nD τ) ↦{fullShare} f) := by
  iintro ⟨⟨%f, H⟩, ⟨%g, H'⟩⟩
  ihave H := (pointsTo_join (ℓ := wsM.view.loc (c : Thread nD τ)) (q := fullShare) (f := f) (g := g) w_disj) $$ [H H']
  · isplitl [H] <;> iassumption
  rw [w_cover]
  iexists _; iexact H

theorem halve {ℓ : Loc nD τ sig} {f : Buf (Elt F) ℓ} :
    (ℓ ↦{fullShare} f : sProp 𝕄) ⊣⊢ iprop((ℓ ↦{fullShare.left} f) ∗ ℓ ↦{fullShare.right} f) := pointsTo_share fullShare.mem_left_op_right

/-- The gathered operand cut: the own slot's four quarters, and what goes to each neighbour. -/
theorem g_cut (c : Dev nD) (f : S4x1024x4096.Idx → Elt F .fp8e4m3) :
    (gpt c Finset.univ fullShare f : sProp 𝕄)
      ⊢ iprop(((gM.view.loc (c : Thread nD τ) ↦[gM.view.setOn (gBlk 0 inb_S4x1024x4096_S1x256x4096_0_0_0).set]{fullShare} f)
        ∗ (gM.view.loc (c : Thread nD τ) ↦[gM.view.setOn (gBlk 256 inb_S4x1024x4096_S1x256x4096_0_256_0).set]{fullShare} f)
        ∗ (gM.view.loc (c : Thread nD τ) ↦[gM.view.setOn (gBlk 512 inb_S4x1024x4096_S1x256x4096_0_512_0).set]{fullShare} f)
        ∗ (gM.view.loc (c : Thread nD τ) ↦[gM.view.setOn (gBlk 768 inb_S4x1024x4096_S1x256x4096_0_768_0).set]{fullShare} f))
        ∗ barPayR (prv c) ∗ barPayL (nxt c)) := by
  unfold barPayR barPayL
  rw [nxt_prv, prv_nxt, ← quarter_eq c 0 0 inb_S4x1024x4096_S1x256x4096_0_0_0 fullShare f, ← quarter_eq c 0 256 inb_S4x1024x4096_S1x256x4096_0_256_0 fullShare f,
    ← quarter_eq c 0 512 inb_S4x1024x4096_S1x256x4096_0_512_0 fullShare f, ← quarter_eq c 0 768 inb_S4x1024x4096_S1x256x4096_0_768_0 fullShare f]
  iintro H
  ihave H := (gpt_slots (c := c) (q := fullShare) (f := f)).1 $$ H
  icases H with ⟨H0, H1, H2, H3⟩
  ihave H0 := (gpt_cut (c := c) (s := 0) (lo := 0) (hi := 1024) (q := fullShare) (f := f) 512 (by decide) (by decide)).1 $$ H0
  icases H0 with ⟨H0T, H0B⟩
  ihave H0T := (gpt_cut (c := c) (s := 0) (lo := 0) (hi := 512) (q := fullShare) (f := f) 256 (by decide) (by decide)).1 $$ H0T
  icases H0T with ⟨Ha, Hb⟩
  ihave H0B := (gpt_cut (c := c) (s := 0) (lo := 512) (hi := 1024) (q := fullShare) (f := f) 768 (by decide) (by decide)).1 $$ H0B
  icases H0B with ⟨Hc, Hd⟩
  ihave H1 := (gpt_cut (c := c) (s := 1) (lo := 0) (hi := 1024) (q := fullShare) (f := f) 512 (by decide) (by decide)).1 $$ H1
  icases H1 with ⟨H1T, H1B⟩
  ihave H3 := (gpt_cut (c := c) (s := 3) (lo := 0) (hi := 1024) (q := fullShare) (f := f) 512 (by decide) (by decide)).1 $$ H3
  icases H3 with ⟨H3T, H3B⟩
  ihave H2 := (gpt_cut (c := c) (s := 2) (lo := 0) (hi := 1024) (q := fullShare) (f := f) 512 (by decide) (by decide)).1 $$ H2
  icases H2 with ⟨H2T, H2B⟩
  ihave H2T := (gpt_cut (c := c) (s := 2) (lo := 0) (hi := 512) (q := fullShare) (f := f) 256 (by decide) (by decide)).1 $$ H2T
  icases H2T with ⟨H2a, H2b⟩
  ihave H2B := (gpt_cut (c := c) (s := 2) (lo := 512) (hi := 1024) (q := fullShare) (f := f) 768 (by decide) (by decide)).1 $$ H2B
  icases H2B with ⟨H2c, H2d⟩
  isplitl [Ha Hb Hc Hd]
  · isplitl [Ha]; · iexact Ha
    isplitl [Hb]; · iexact Hb
    isplitl [Hc]; · iexact Hc
    iexact Hd
  isplitl [H3T H3B H2a H2b]
  · iexists f
    isplitl [H3T]; · iexact H3T
    isplitl [H3B]; · iexact H3B
    isplitl [H2a]; · iexact H2a
    iexact H2b
  iexists f
  isplitl [H1B]; · iexact H1B
  isplitl [H1T]; · iexact H1T
  isplitl [H2c]; · iexact H2c
  iexact H2d

/-! ## The body -/

/-- The positions, the tokens and the credits a device starts its body with. -/
def tickets (c : Dev nD) : sProp 𝕄 :=
  iprop((atPos ER (bcell c) 0 ∅ 0
    ∗ (atPos ER (dcell c ssem0) 0 ∅ 0 ∗ atPos ER (dcell c ssem1) 0 ∅ 0 ∗ atPos ER (dcell c ssem2) 0 ∅ 0 ∗ atPos ER (dcell c ssem3) 0 ∅ 0
      ∗ atPos ER (dcell c ssem4) 0 ∅ 0 ∗ atPos ER (dcell c ssem5) 0 ∅ 0 ∗ atPos ER (dcell c ssem6) 0 ∅ 0 ∗ atPos ER (dcell c ssem7) 0 ∅ 0)
    ∗ (atPos ER (dcell c rsem0) 0 ∅ 0 ∗ atPos ER (dcell c rsem1) 0 ∅ 0 ∗ atPos ER (dcell c rsem2) 0 ∅ 0 ∗ atPos ER (dcell c rsem3) 0 ∅ 0
      ∗ atPos ER (dcell c rsem4) 0 ∅ 0 ∗ atPos ER (dcell c rsem5) 0 ∅ 0 ∗ atPos ER (dcell c rsem6) 0 ∅ 0 ∗ atPos ER (dcell c rsem7) 0 ∅ 0))
    ∗ ((dutyTok ER (bcell (prv c)) 0 true ∗ dutyTok ER (bcell (nxt c)) 0 false)
    ∗ (dutyTok ER (dcell c ssem0) 0 false ∗ dutyTok ER (dcell c ssem1) 0 false ∗ dutyTok ER (dcell c ssem2) 0 false ∗ dutyTok ER (dcell c ssem3) 0 false)
    ∗ (dutyTok ER (dcell c ssem4) 0 false ∗ dutyTok ER (dcell c ssem5) 0 false ∗ dutyTok ER (dcell c ssem6) 0 false ∗ dutyTok ER (dcell c ssem7) 0 false)
    ∗ (dutyTok ER (dcell (nxt c) rsem0) 0 false ∗ dutyTok ER (dcell (nxt c) rsem1) 0 false ∗ dutyTok ER (dcell (prv c) rsem2) 0 false ∗ dutyTok ER (dcell (prv c) rsem3) 0 false)
    ∗ (dutyTok ER (dcell (nxt c) rsem4) 0 false ∗ dutyTok ER (dcell (nxt c) rsem5) 0 false ∗ dutyTok ER (dcell (prv c) rsem6) 0 false ∗ dutyTok ER (dcell (prv c) rsem7) 0 false)))
def credits (c : Dev nD) : sProp 𝕄 :=
  iprop(cred (tallyAt (bcell c) () 2)
    ∗ (cred (tallyAt (dcell c rsem0) () N512) ∗ cred (tallyAt (dcell c rsem1) () N512) ∗ cred (tallyAt (dcell c rsem2) () N512) ∗ cred (tallyAt (dcell c rsem3) () N512)
      ∗ cred (tallyAt (dcell c rsem4) () N256) ∗ cred (tallyAt (dcell c rsem5) () N256) ∗ cred (tallyAt (dcell c rsem6) () N256) ∗ cred (tallyAt (dcell c rsem7) () N256)))
/-- The local copies' semaphores at zero. -/
def locals (c : Dev nD) : sProp 𝕄 :=
  iprop(semVal (dcell c xsem0) 0 ∗ semVal (dcell c xsem1) 0 ∗ semVal (dcell c wsem0) 0 ∗ semVal (dcell c wsem1) 0 ∗ semVal (dcell c osem0) 0 ∗ semVal (dcell c osem1) 0)
/-- The remote copies' semaphores at zero. -/
def remotes (c : Dev nD) : sProp 𝕄 :=
  iprop((semVal (dcell c ssem0) 0 ∗ semVal (dcell c ssem1) 0 ∗ semVal (dcell c ssem2) 0 ∗ semVal (dcell c ssem3) 0
      ∗ semVal (dcell c ssem4) 0 ∗ semVal (dcell c ssem5) 0 ∗ semVal (dcell c ssem6) 0 ∗ semVal (dcell c ssem7) 0)
    ∗ (semVal (dcell c rsem0) 0 ∗ semVal (dcell c rsem1) 0 ∗ semVal (dcell c rsem2) 0 ∗ semVal (dcell c rsem3) 0
      ∗ semVal (dcell c rsem4) 0 ∗ semVal (dcell c rsem5) 0 ∗ semVal (dcell c rsem6) 0 ∗ semVal (dcell c rsem7) 0))
/-- The five scratch buffers, whole, at some contents. -/
def scratch (c : Dev nD) : sProp 𝕄 :=
  iprop((∃ f, gM.view.loc (c : Thread nD τ) ↦{fullShare} f) ∗ (∃ f, hM.view.loc (c : Thread nD τ) ↦{fullShare} f) ∗ (∃ f, xsM.view.loc (c : Thread nD τ) ↦{fullShare} f)
    ∗ (∃ f, wsM.view.loc (c : Thread nD τ) ↦{fullShare} f) ∗ (∃ f, aM.view.loc (c : Thread nD τ) ↦{fullShare} f))

theorem body (K : Dev nD × Fin 17 → ℕ) (c : Dev nD) (W : Waits sig Unit) (fsx fsw : S1.Idx → Elt F .f32) (fo : S4096x2048.Idx → Elt F .f32) (Q : PUnit → sProp 𝕄) :
    iprop((facts m ρ K ∗ levAts L lv ∗ owes (c : Thread nD τ) (D c 0) W ∗ tickets c ∗ credits c ∗ locals c ∗ scratch c
        ∗ (xM.view.loc (c : Thread nD τ) ↦{fullShare} xA m ρ c) ∗ (wM.view.loc (c : Thread nD τ) ↦{fullShare} wA m ρ c)
        ∗ (sxM.view.loc (c : Thread nD τ) ↦{fullShare} fsx) ∗ (swM.view.loc (c : Thread nD τ) ↦{fullShare} fsw) ∗ (oM.view.loc (c : Thread nD τ) ↦{fullShare} fo))
      ∗ (((∃ W', owes (c : Thread nD τ) 0 W') ∗ semVal (bcell c) 0 ∗ locals c ∗ remotes c ∗ scratch c
        ∗ (xM.view.loc (c : Thread nD τ) ↦{fullShare} xA m ρ c) ∗ (wM.view.loc (c : Thread nD τ) ↦{fullShare} wA m ρ c)
        ∗ (sxM.view.loc (c : Thread nD τ) ↦{fullShare} fsx) ∗ (swM.view.loc (c : Thread nD τ) ↦{fullShare} fsw)
        ∗ (oM.view.loc (c : Thread nD τ) ↦{fullShare} OUT m ρ (scl fsx fsw) c)) -∗ Q ⟨⟩))
    ⊢ wp frame (wpE (defs₀ (F := F)) 𝒱₀ (c : Thread nD τ) none) Set.univ bodyProg Q := by
  rw [body_eq, wp_bind]
  unfold tickets credits locals remotes scratch
  iintro ⟨⟨#HF, #Hlev, HO, ⟨⟨HaB, HaS, HaR⟩, HtB, HtS, HtS', HtR, HtR'⟩, ⟨HcB, HcR⟩, ⟨Hx0, Hx1, Hw0, Hw1, Ho0, Ho1⟩, ⟨⟨%fg, Hg⟩, ⟨%fh, Hh⟩, ⟨%fxs, Hxs⟩, ⟨%fws, Hws⟩, ⟨%fa, Ha⟩⟩,
    Hx, Hw, Hsx, Hsw, Ho⟩, Hk⟩
  icases HaS with ⟨HaS0, HaS1, HaS2, HaS3, HaS4, HaS5, HaS6, HaS7⟩
  ihave Hg := (show (gM.view.loc (c : Thread nD τ) ↦{fullShare} fg : sProp 𝕄) ⊢ _ from g_cut c fg) $$ Hg
  icases Hg with ⟨⟨Hg0, Hg1, Hg2, Hg3⟩, HpR, HpL⟩
  ihave Hxs := (x_cut c fxs) $$ Hxs
  icases Hxs with ⟨Hxs, Hxs'⟩
  ihave Hx := halve.1 $$ Hx
  icases Hx with ⟨Hx, Hx'⟩
  iapply (runX m ρ K c W fxs fxs fg)
  isplitl [HO HaB HtB HtS HtR HcB Hx0 Hx1 Hx Hx' Hxs Hxs' Hg0 Hg1 Hg2 Hg3 HpR HpL]
  · unfold preX
    isplitr; · iexact HF
    isplitr; · iexact Hlev
    isplitl [HcB]; · iexact HcB
    isplitl [HO]; · iexact HO
    isplitl [HaB]; · iexact HaB
    isplitl [HtB]; · iexact HtB
    isplitl [HtS]; · iexact HtS
    isplitl [HtR]; · iexact HtR
    isplitl [Hx0]; · iexact Hx0
    isplitl [Hx1]; · iexact Hx1
    isplitl [Hx]; · iexact Hx
    isplitl [Hx']; · iexact Hx'
    isplitl [Hxs]; · iexact Hxs
    isplitl [Hxs']; · iexact Hxs'
    isplitl [Hg0]; · iexact Hg0
    isplitl [Hg1]; · iexact Hg1
    isplitl [Hg2]; · iexact Hg2
    isplitl [Hg3]; · iexact Hg3
    isplitl [HpR]; · iexact HpR
    iexact HpL
  iintro %v2 %v4 %v7 H
  unfold postX
  icases H with ⟨⟨%W1, HO⟩, HzB, HcS, Hx0, Hx1, Hx, Hx', Hxs, Hxs', Hg0, Hg1, Hn0, Hn1, Hn2, Hn3⟩
  dsimp only
  rw [wp_bind]
  ihave Hws := (w_cut c fws) $$ Hws
  icases Hws with ⟨Hws, Hws'⟩
  ihave Hw := halve.1 $$ Hw
  icases Hw with ⟨Hw, Hw'⟩
  ihave Hg := (slot_ready c 0 inb_S4x1024x4096_S1x1024x4096_0_0_0 fullShare.left (XG m ρ c)) $$ [Hg0 Hg1]
  · isplitl [Hg0] <;> iassumption
  iapply (runW m ρ c v2 W1 fws fws fh fa fsx fsw fullShare.left)
  isplitl [HO Hw0 Hw1 Hw Hw' Hws Hws' Hh Ha Hsx Hsw Hg]
  · isplitr; · iexact Hlev
    isplitl [HO]; · iexact HO
    isplitl [Hw0]; · iexact Hw0
    isplitl [Hw1]; · iexact Hw1
    isplitl [Hw]; · iexact Hw
    isplitl [Hw']; · iexact Hw'
    isplitl [Hws]; · iexact Hws
    isplitl [Hws']; · iexact Hws'
    isplitl [Hh]; · iexact Hh
    isplitl [Ha]; · iexact Ha
    isplitl [Hsx]; · iexact Hsx
    isplitl [Hsw]; · iexact Hsw
    iexact Hg
  iintro ⟨⟨%W2, HO⟩, Hw0, Hw1, Hw, Hw', Hws, Hws', Hh, Ha, Hsx, Hsw, Hg⟩
  dsimp only
  ihave Hg := (slot_back c 0 inb_S4x1024x4096_S1x1024x4096_0_0_0 fullShare.left (XG m ρ c)) $$ Hg
  ihave Hg := (gpt_cut (c := c) (s := 0) (lo := 0) (hi := 1024) (q := fullShare.left) (f := XG m ρ c) 512 (by decide) (by decide)).1 $$ Hg
  icases Hg with ⟨Hg0, Hg1⟩
  iapply (runB m ρ K c v2 v4 v7 (scl fsx fsw) W2 fa fo)
  isplitl [HO HaS0 HaS1 HaS2 HaS3 HaS4 HaS5 HaS6 HaS7 HaR HcR HcS HtS' HtR' Ho0 Ho1 Hg0 Hg1 Hn0 Hn1 Hn2 Hn3 Hh Ha Ho]
  · unfold preB
    isplitr; · iexact HF
    isplitr; · iexact Hlev
    isplitl [HO]; · iexact HO
    isplitl [HaS0 HaS1 HaS2 HaS3 HaS4 HaS5 HaS6 HaS7]
    · isplitl [HaS0]; · iexact HaS0
      isplitl [HaS1]; · iexact HaS1
      isplitl [HaS2]; · iexact HaS2
      isplitl [HaS3]; · iexact HaS3
      isplitl [HaS4]; · iexact HaS4
      isplitl [HaS5]; · iexact HaS5
      isplitl [HaS6]; · iexact HaS6
      iexact HaS7
    isplitl [HaR]; · iexact HaR
    isplitl [HcR]; · iexact HcR
    isplitl [HcS]; · iexact HcS
    isplitl [HtS']; · iexact HtS'
    isplitl [HtR']; · iexact HtR'
    isplitl [Ho0]; · iexact Ho0
    isplitl [Ho1]; · iexact Ho1
    isplitl [Hg0]; · iexact Hg0
    isplitl [Hg1]; · iexact Hg1
    isplitl [Hn0]; · iexact Hn0
    isplitl [Hn1]; · iexact Hn1
    isplitl [Hn2]; · iexact Hn2
    isplitl [Hn3]; · iexact Hn3
    isplitl [Hh]; · iexact Hh
    isplitl [Ha]; · iexact Ha
    iexact Ho
  unfold postB
  iintro ⟨HO, HzS, HzR, Ho0, Ho1, Hg, Hh, Ha, Ho⟩
  iapply Hk
  isplitl [HO]; · iexact HO
  isplitl [HzB]; · iexact HzB
  isplitl [Hx0 Hx1 Hw0 Hw1 Ho0 Ho1]
  · isplitl [Hx0]; · iexact Hx0
    isplitl [Hx1]; · iexact Hx1
    isplitl [Hw0]; · iexact Hw0
    isplitl [Hw1]; · iexact Hw1
    isplitl [Ho0]; · iexact Ho0
    iexact Ho1
  isplitl [HzS HzR]
  · isplitl [HzS]; · iexact HzS
    iexact HzR
  isplitl [Hg Hh Hxs Hxs' Hws Hws' Ha]
  · isplitl [Hg]; · iexists _; unfold gpt; iexact Hg
    isplitl [Hh]; · iexists _; iexact Hh
    isplitl [Hxs Hxs']
    · iapply (x_join c); isplitl [Hxs]; · iexact Hxs
      iexact Hxs'
    isplitl [Hws Hws']
    · iapply (w_join c); isplitl [Hws]; · iexact Hws
      iexact Hws'
    iexact Ha
  isplitl [Hx Hx']
  · iapply halve.2; isplitl [Hx]; · iexact Hx
    iexact Hx'
  isplitl [Hw Hw']
  · iapply halve.2; isplitl [Hw]; · iexact Hw
    iexact Hw'
  isplitl [Hsx]; · iexact Hsx
  isplitl [Hsw]; · iexact Hsw
  iexact Ho

end Cert.KernelIdeal.Gather

end
-- ==== Proof.Launch.lean ====
/- # The launch: the single grid point, what each device is dealt at the start, and the run of the whole mesh. -/
module

public import proofs.«01_k».proof.Proof.Body
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The grid point -/

/-- The two scale arguments as staged on device `c`, and what the kernel makes of them. -/
def sxS (c : Dev nD) : S1.Idx → Elt F .f32 := iblk m c (0 : Fin 2) t0_0
def swS (c : Dev nD) : S1.Idx → Elt F .f32 := iblk m c (1 : Fin 2) t0_0
def sc (c : Dev nD) : F .f32 := scl (sxS m c) (swS m c)

/-- The three arrays the kernel reads and writes in place, with the result at `f`. -/
def arrs (c : Dev nD) (f : Buf (Elt F) (oM.view.loc (c : Thread nD τ))) : sProp 𝕄 :=
  iprop((xM.view.loc (c : Thread nD τ) ↦{fullShare} xA m ρ c) ∗ (wM.view.loc (c : Thread nD τ) ↦{fullShare} wA m ρ c)
    ∗ (oM.view.loc (c : Thread nD τ) ↦{fullShare} f))

/-- What device `c` holds when the kernel starts, apart from its scratch. -/
def start (c : Dev nD) : sProp 𝕄 :=
  iprop((∃ K, facts m ρ K ∗ tickets c) ∗ credits c ∗ locals c ∗ levAts L lv ∗ ∃ f, arrs m ρ c f)
def Φ₀ (c : Dev nD) : sProp 𝕄 := iprop(start m ρ c ∗ scratch c)
/-- What it holds when the kernel has ended. -/
def Φ₁ (c : Dev nD) : sProp 𝕄 :=
  iprop(semVal (bcell c) 0 ∗ locals c ∗ remotes c ∗ scratch c ∗ arrs m ρ c (OUT m ρ (sc m c) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sxS m c
    | ⟨1, _⟩ => swS m c
  Φ t := match t with
    | ⟨0, _⟩ => Φ₀ m ρ c
    | ⟨_ + 1, _⟩ => Φ₁ m ρ c
  q _ := fullShare
  owed t := match t with
    | ⟨0, _⟩ => D c 0
    | ⟨_ + 1, _⟩ => 0

theorem fetches_sx (t : Fin cfg0.N) : (cfg0.win (0 : Fin 2)).fetch t = true := by rw [fin_N0 t]; rfl
theorem fetches_sw (t : Fin cfg0.N) : (cfg0.win (1 : Fin 2)).fetch t = true := by rw [fin_N0 t]; rfl

omit [FloatOps F] in
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- One whole buffer at known contents. -/
abbrev kept (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

set_option maxRecDepth 4000 in
def pointPre (c : Dev nD) : sProp 𝕄 :=
  iprop(Φ₀ m ρ c ∗ (dats m ρ 0 c).owesAt () t0_0.castSucc
    ∗ (∃ d, kept c cc0_stg0_0 ((dats m ρ 0 c).before (0 : Fin 2) t0_0 d))
    ∗ (∃ d, kept c cc0_stg1_0 ((dats m ρ 0 c).before (1 : Fin 2) t0_0 d)))
set_option maxRecDepth 4000 in
def pointPost (c : Dev nD) : sProp 𝕄 :=
  iprop(Φ₁ m ρ c ∗ (dats m ρ 0 c).owesAt () t0_0.succ
    ∗ kept c cc0_stg0_0 ((dats m ρ 0 c).after (0 : Fin 2) t0_0)
    ∗ kept c cc0_stg1_0 ((dats m ρ 0 c).after (1 : Fin 2) t0_0))

set_option maxRecDepth 8000 in
/-- The one grid point: the kernel body, from what the launch deals to what it hands back. -/
theorem point (c : Dev nD) : BodyObligation (dats (F := F) m ρ 0 c) (defs₀ (F := F)) 𝒱₀ () Set.univ := fun t => by
  rw [fin_N0 t]
  rw [bigSep_W0, bigSep_W0]
  simp only [owns_all]
  show pointPre m ρ c ⊢ wp frame (wpE (defs₀ (F := F)) 𝒱₀ (c : Thread nD τ) none) Set.univ bodyProg (fun _ => pointPost m ρ c)
  unfold pointPre Φ₀ start arrs
  iintro ⟨⟨⟨⟨%K, ⟨#HF, Htk⟩⟩, Hcr, Hloc, #Hlev, ⟨%fo, Hx, Hw, Ho⟩⟩, Hscr⟩, Hdue, ⟨%d0, %f0, %h0, Hsx⟩, ⟨%d1, %f1, %h1, Hsw⟩⟩
  have e0 : f0 = sxS m c := by
    rw [h0]; unfold Dat.before; rw [if_pos (fetches_sx t0_0)]; rfl
  have e1 : f1 = swS m c := by
    rw [h1]; unfold Dat.before; rw [if_pos (fetches_sw t0_0)]; rfl
  subst e0 e1
  unfold Dat.owesAt Pipeline.owesWithin
  icases Hdue with ⟨%W, %hW, HO⟩
  iapply (body m ρ K c W (sxS m c) (swS m c) fo fun _ => pointPost m ρ c)
  isplitr []
  · isplitl []; · iexact HF
    isplitl []; · iexact Hlev
    isplitl [HO]; · iexact HO
    isplitl [Htk]; · iexact Htk
    isplitl [Hcr]; · iexact Hcr
    isplitl [Hloc]; · iexact Hloc
    isplitl [Hscr]; · iexact Hscr
    isplitl [Hx]; · iexact Hx
    isplitl [Hw]; · iexact Hw
    isplitl [Hsx]; · iexact Hsx
    isplitl [Hsw]; · iexact Hsw
    iexact Ho
  · iintro ⟨⟨%W', HO⟩, Hb, Hloc, Hrem, Hscr, Hx, Hw, Hsx, Hsw, Ho⟩
    unfold pointPost Φ₁ arrs Dat.owesAt Pipeline.owesWithin
    isplitl [Hb Hloc Hrem Hscr Hx Hw Ho]
    · isplitl [Hb]; · iexact Hb
      isplitl [Hloc]; · iexact Hloc
      isplitl [Hrem]; · iexact Hrem
      isplitl [Hscr]; · iexact Hscr
      isplitl [Hx]; · iexact Hx
      isplitl [Hw]; · iexact Hw
      iexact Ho
    isplitl [HO]
    · iexists W'
      isplitr
      · ipureintro; exact fun _ _ => Or.inl trivial
      iexact HO
    isplitl [Hsx]
    · iexists (sxS m c); isplitr; · ipureintro; rfl
      iexact Hsx
    iexists (swS m c); isplitr; · ipureintro; rfl
    iexact Hsw

/-! ## Semaphores and records at the launch -/

/-- The kernel's own semaphores: two for each of the three local streams, eight sends, eight landings. -/
def osem (k : Fin 22) : SemLoc sig := .dma (⟨2 + k.val, by have := k.isLt; show 2 + k.val < 24; omega⟩ : DmaSem sig)

theorem osem_ok : Pipeline.OwnSemFacts cfg0.spec osem := by decide

theorem share_full (c : Dev nD) (w : Fin cfg0.W) : (dats m ρ 0 c).share w = fullShare := by unfold Dat.share; split <;> rfl

theorem csem_inj : ∀ j k : Fin 17, csem j = csem k → j = k := by decide
theorem csem_ne_bar : ∀ k : Fin 17, k ≠ 0 → csem k ≠ .reg barS := by decide

theorem kcell_inj : Function.Injective (kcell : Dev nD × Fin 17 → GSem nD τ sig) := fun ⟨c, j⟩ ⟨d, k⟩ h =>
  Prod.ext (Fin.ext (congrArg (fun g : GSem nD τ sig => g.1.1.val) h)) (csem_inj j k (congrArg Prod.snd h))
def ringCells : Finset (GSem nD τ sig) := Finset.univ.map ⟨kcell, kcell_inj⟩

/-- The duties of a device's own cells: `none` its barrier's second, `some k` the first of cell `k`. -/
def tokOf (cj : Dev nD × Option (Fin 17)) : GSem nD τ sig × ℕ × Bool :=
  (kcell (cj.1, cj.2.getD 0), 0, cj.2.isNone)
theorem tokOf_inj : Function.Injective (tokOf : Dev nD × Option (Fin 17) → GSem nD τ sig × ℕ × Bool) := fun ⟨c, i⟩ ⟨d, j⟩ h => by
  have h0 : kcell (c, i.getD 0) = kcell (d, j.getD 0) := congrArg Prod.fst h
  have h1 := kcell_inj h0
  have h2 : i.isNone = j.isNone := congrArg (fun x : GSem nD τ sig × ℕ × Bool => x.2.2) h
  refine Prod.ext (congrArg (fun x : Dev nD × Fin 17 => x.1) h1) ?_
  have h3 : i.getD 0 = j.getD 0 := congrArg (fun x : Dev nD × Fin 17 => x.2) h1
  cases i <;> cases j <;> simp_all
def ringToks : Finset (GSem nD τ sig × ℕ × Bool) := Finset.univ.map ⟨tokOf, tokOf_inj⟩

def u₀ : UU :=
  (initOf (Pipeline.cells cfgs cellOf_inj) (Pipeline.launchToks cfgs cellOf_inj), (initOf ringCells ringToks, 1))

/-- The tokens of the duties on device `c`'s own cells. -/
def toks (c : Dev nD) : sProp 𝕄 := bigSep Finset.univ fun j : Option (Fin 17) => dutyTok ER (tokOf (c, j)).1 0 j.isNone

def G (c : Dev nD) : sProp 𝕄 :=
  iprop((bigSep Finset.univ fun k : Fin 17 => roundState ER (gRd m ρ) (kcell (c, k)) 0)
    ∗ (bigSep Finset.univ fun k : Fin 17 => iprop(atPos ER (kcell (c, k)) 0 ∅ 0 ∗ reached ER (kcell (c, k)) 0)) ∗ toks c)

/-- What a device goes into the kernel with, once the records of all are set up. -/
def G' (c : Dev nD) : sProp 𝕄 := iprop((∃ K, facts m ρ K ∗ tickets c) ∗ locals c)

theorem fund_cells : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (gRd m ρ) ringCells ringToks) $$ HX with ⟨Hst, Hr, Hat, Htok⟩
  imodintro
  ihave Hst' := (Entails.of_eq (hX fun g => roundState ER (gRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seventeen cells of a device, one by one. -/
theorem cells_list (Φ : GSem nD τ sig → sProp 𝕄) (c : Dev nD) : (bigSep Finset.univ fun k : Fin 17 => Φ (kcell (c, k)))
    = iprop(Φ (bcell c) ∗ Φ (dcell c ssem0) ∗ Φ (dcell c ssem1) ∗ Φ (dcell c ssem2) ∗ Φ (dcell c ssem3) ∗ Φ (dcell c ssem4) ∗ Φ (dcell c ssem5) ∗ Φ (dcell c ssem6) ∗ Φ (dcell c ssem7) ∗ Φ (dcell c rsem0) ∗ Φ (dcell c rsem1) ∗ Φ (dcell c rsem2) ∗ Φ (dcell c rsem3) ∗ Φ (dcell c rsem4) ∗ Φ (dcell c rsem5) ∗ Φ (dcell c rsem6) ∗ Φ (dcell c rsem7)) := by
  rw [bigSep_univ_eq_bigSepL [0, 1, 2, 3, 4, 5, 6, 7, 8, 9, 10, 11, 12, 13, 14, 15, 16] (by decide) (by decide)]; rfl

omit [FloatOps F] in
theorem toks_list (c : Dev nD) : (toks c : sProp 𝕄) = iprop(dutyTok ER (bcell c) 0 true ∗ dutyTok ER (bcell c) 0 false ∗ dutyTok ER (dcell c ssem0) 0 false ∗ dutyTok ER (dcell c ssem1) 0 false ∗ dutyTok ER (dcell c ssem2) 0 false ∗ dutyTok ER (dcell c ssem3) 0 false ∗ dutyTok ER (dcell c ssem4) 0 false ∗ dutyTok ER (dcell c ssem5) 0 false ∗ dutyTok ER (dcell c ssem6) 0 false ∗ dutyTok ER (dcell c ssem7) 0 false ∗ dutyTok ER (dcell c rsem0) 0 false ∗ dutyTok ER (dcell c rsem1) 0 false ∗ dutyTok ER (dcell c rsem2) 0 false ∗ dutyTok ER (dcell c rsem3) 0 false ∗ dutyTok ER (dcell c rsem4) 0 false ∗ dutyTok ER (dcell c rsem5) 0 false ∗ dutyTok ER (dcell c rsem6) 0 false ∗ dutyTok ER (dcell c rsem7) 0 false) := by
  unfold toks
  rw [bigSep_univ_eq_bigSepL [none, some 0, some 1, some 2, some 3, some 4, some 5, some 6, some 7, some 8, some 9, some 10, some 11, some 12, some 13, some 14, some 15, some 16] (by decide) (by decide)]; rfl

omit [FloatOps F] in
theorem own_list (c : Dev nD) : (Pipeline.ownSems0 (Ix := Unit) (Name := ℕ) (U := UU) (Lvl := ℕ) (Val := Elt F) (τ := τ) osem c : sProp 𝕄)
    = iprop(semVal (dcell c xsem0) 0 ∗ semVal (dcell c xsem1) 0 ∗ semVal (dcell c wsem0) 0 ∗ semVal (dcell c wsem1) 0 ∗ semVal (dcell c osem0) 0 ∗ semVal (dcell c osem1) 0 ∗ semVal (dcell c ssem0) 0 ∗ semVal (dcell c ssem1) 0 ∗ semVal (dcell c ssem2) 0 ∗ semVal (dcell c ssem3) 0 ∗ semVal (dcell c ssem4) 0 ∗ semVal (dcell c ssem5) 0 ∗ semVal (dcell c ssem6) 0 ∗ semVal (dcell c ssem7) 0 ∗ semVal (dcell c rsem0) 0 ∗ semVal (dcell c rsem1) 0 ∗ semVal (dcell c rsem2) 0 ∗ semVal (dcell c rsem3) 0 ∗ semVal (dcell c rsem4) 0 ∗ semVal (dcell c rsem5) 0 ∗ semVal (dcell c rsem6) 0 ∗ semVal (dcell c rsem7) 0) := by
  rw [Pipeline.ownSems0_eq_of_list c osem [0, 1, 2, 3, 4, 5, 6, 7, 8, 9, 10, 11, 12, 13, 14, 15, 16, 17, 18, 19, 20, 21] (by decide) (by decide)]; rfl
omit [FloatOps F] in
theorem unscoped_bar (c : Dev nD) : (unscopedSems0 c : sProp 𝕄) = semVal (bcell c) 0 := by
  unfold unscopedSems0; rw [bigSep_eq_bigSepL_of_eq [SemLoc.reg barS] (by decide) (by decide)]; rfl

omit [FloatOps F] in
/-- At the start the local semaphores are set apart and the others become cells. -/
theorem sems_out (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 17 => semVal (kcell (c, k)) 0) ∗ locals c) : sProp 𝕄) := by
  rw [own_list, unscoped_bar, cells_list (fun g => semVal g 0)]
  unfold locals
  iintro ⟨⟨Hxsem0, Hxsem1, Hwsem0, Hwsem1, Hosem0, Hosem1, Hssem0, Hssem1, Hssem2, Hssem3, Hssem4, Hssem5, Hssem6, Hssem7, Hrsem0, Hrsem1, Hrsem2, Hrsem3, Hrsem4, Hrsem5, Hrsem6, Hrsem7⟩, HB⟩
  isplitl [HB Hssem0 Hssem1 Hssem2 Hssem3 Hssem4 Hssem5 Hssem6 Hssem7 Hrsem0 Hrsem1 Hrsem2 Hrsem3 Hrsem4 Hrsem5 Hrsem6 Hrsem7]
  · isplitl [HB]; · iexact HB
    isplitl [Hssem0]; · iexact Hssem0
    isplitl [Hssem1]; · iexact Hssem1
    isplitl [Hssem2]; · iexact Hssem2
    isplitl [Hssem3]; · iexact Hssem3
    isplitl [Hssem4]; · iexact Hssem4
    isplitl [Hssem5]; · iexact Hssem5
    isplitl [Hssem6]; · iexact Hssem6
    isplitl [Hssem7]; · iexact Hssem7
    isplitl [Hrsem0]; · iexact Hrsem0
    isplitl [Hrsem1]; · iexact Hrsem1
    isplitl [Hrsem2]; · iexact Hrsem2
    isplitl [Hrsem3]; · iexact Hrsem3
    isplitl [Hrsem4]; · iexact Hrsem4
    isplitl [Hrsem5]; · iexact Hrsem5
    isplitl [Hrsem6]; · iexact Hrsem6
    iexact Hrsem7
  isplitl [Hxsem0]; · iexact Hxsem0
  isplitl [Hxsem1]; · iexact Hxsem1
  isplitl [Hwsem0]; · iexact Hwsem0
  isplitl [Hwsem1]; · iexact Hwsem1
  isplitl [Hosem0]; · iexact Hosem0
  iexact Hosem1

omit [FloatOps F] in
/-- At the end they all come back. -/
theorem sems_back (c : Dev nD) :
    iprop(locals c ∗ remotes c)
      ⊢ (Pipeline.ownSems0 (Ix := Unit) (Name := ℕ) (U := UU) (Lvl := ℕ) (Val := Elt F) (τ := τ) osem c : sProp 𝕄) := by
  rw [own_list]
  unfold locals remotes
  iintro ⟨⟨Hxsem0, Hxsem1, Hwsem0, Hwsem1, Hosem0, Hosem1⟩, ⟨Hssem0, Hssem1, Hssem2, Hssem3, Hssem4, Hssem5, Hssem6, Hssem7⟩, Hrsem0, Hrsem1, Hrsem2, Hrsem3, Hrsem4, Hrsem5, Hrsem6, Hrsem7⟩
  isplitl [Hxsem0]; · iexact Hxsem0
  isplitl [Hxsem1]; · iexact Hxsem1
  isplitl [Hwsem0]; · iexact Hwsem0
  isplitl [Hwsem1]; · iexact Hwsem1
  isplitl [Hosem0]; · iexact Hosem0
  isplitl [Hosem1]; · iexact Hosem1
  isplitl [Hssem0]; · iexact Hssem0
  isplitl [Hssem1]; · iexact Hssem1
  isplitl [Hssem2]; · iexact Hssem2
  isplitl [Hssem3]; · iexact Hssem3
  isplitl [Hssem4]; · iexact Hssem4
  isplitl [Hssem5]; · iexact Hssem5
  isplitl [Hssem6]; · iexact Hssem6
  isplitl [Hssem7]; · iexact Hssem7
  isplitl [Hrsem0]; · iexact Hrsem0
  isplitl [Hrsem1]; · iexact Hrsem1
  isplitl [Hrsem2]; · iexact Hrsem2
  isplitl [Hrsem3]; · iexact Hrsem3
  isplitl [Hrsem4]; · iexact Hrsem4
  isplitl [Hrsem5]; · iexact Hrsem5
  isplitl [Hrsem6]; · iexact Hrsem6
  iexact Hrsem7

/-- Every cell's record is opened at round 0. -/
theorem cells_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gRd m ρ) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems_out (F := F) c) $$ [Hos Hus]
  · isplitl [Hos] <;> iassumption
  icases Hv with ⟨Hv, Hl⟩
  imod (show iprop((bigSep Finset.univ fun k : Fin 17 => semVal (kcell (c, k)) 0) ∗ bigSep Finset.univ fun k : Fin 17 => roundState ER (gRd m ρ) (kcell (c, k)) 0)
      ⊢ (|={Set.univ}=> bigSep Finset.univ fun k => iprop(∃ κ : ℕ, cellInv ER (gRd m ρ) κ (kcell (c, k))) : sProp 𝕄) from by
        rw [← bigSep_sep']
        exact (bigSep_mono fun k _ => (Rounds.body_intro ER (gRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The tokens of the duties device `c` pays itself. -/
def payToks (c : Dev nD) : sProp 𝕄 :=
  iprop((dutyTok ER (bcell (prv c)) 0 true ∗ dutyTok ER (bcell (nxt c)) 0 false)
    ∗ (dutyTok ER (dcell c ssem0) 0 false ∗ dutyTok ER (dcell c ssem1) 0 false ∗ dutyTok ER (dcell c ssem2) 0 false ∗ dutyTok ER (dcell c ssem3) 0 false)
    ∗ (dutyTok ER (dcell c ssem4) 0 false ∗ dutyTok ER (dcell c ssem5) 0 false ∗ dutyTok ER (dcell c ssem6) 0 false ∗ dutyTok ER (dcell c ssem7) 0 false)
    ∗ (dutyTok ER (dcell (nxt c) rsem0) 0 false ∗ dutyTok ER (dcell (nxt c) rsem1) 0 false ∗ dutyTok ER (dcell (prv c) rsem2) 0 false ∗ dutyTok ER (dcell (prv c) rsem3) 0 false)
    ∗ (dutyTok ER (dcell (nxt c) rsem4) 0 false ∗ dutyTok ER (dcell (nxt c) rsem5) 0 false ∗ dutyTok ER (dcell (prv c) rsem6) 0 false ∗ dutyTok ER (dcell (prv c) rsem7) 0 false))
/-- The positions on its own cells. -/
def poss (c : Dev nD) : sProp 𝕄 := bigSep Finset.univ fun k : Fin 17 => atPos ER (kcell (c, k)) 0 ∅ 0

omit [FloatOps F] in
theorem tickets_intro (c : Dev nD) : iprop(poss c ∗ payToks c) ⊢ (tickets c : sProp 𝕄) := by
  unfold poss payToks tickets
  rw [cells_list (fun g => atPos ER g 0 ∅ 0)]
  iintro ⟨⟨HB, Hssem0, Hssem1, Hssem2, Hssem3, Hssem4, Hssem5, Hssem6, Hssem7, Hrsem0, Hrsem1, Hrsem2, Hrsem3, Hrsem4, Hrsem5, Hrsem6, Hrsem7⟩, Ht⟩
  isplitr [Ht]
  · isplitl [HB]; · iexact HB
    isplitl [Hssem0 Hssem1 Hssem2 Hssem3 Hssem4 Hssem5 Hssem6 Hssem7]
    · isplitl [Hssem0]; · iexact Hssem0
      isplitl [Hssem1]; · iexact Hssem1
      isplitl [Hssem2]; · iexact Hssem2
      isplitl [Hssem3]; · iexact Hssem3
      isplitl [Hssem4]; · iexact Hssem4
      isplitl [Hssem5]; · iexact Hssem5
      isplitl [Hssem6]; · iexact Hssem6
      iexact Hssem7
    isplitl [Hrsem0]; · iexact Hrsem0
    isplitl [Hrsem1]; · iexact Hrsem1
    isplitl [Hrsem2]; · iexact Hrsem2
    isplitl [Hrsem3]; · iexact Hrsem3
    isplitl [Hrsem4]; · iexact Hrsem4
    isplitl [Hrsem5]; · iexact Hrsem5
    isplitl [Hrsem6]; · iexact Hrsem6
    iexact Hrsem7
  iexact Ht

omit [FloatOps F] in
/-- Each device's tokens go to the neighbours that pay the duties. -/
theorem toks_around : (bigSep Finset.univ fun c : Dev nD => (toks c : sProp 𝕄)) ⊢ bigSep Finset.univ fun c : Dev nD => payToks c := by
  simp only [toks_list]
  unfold payToks
  simp only [bigSep_sep']
  rw [bigSep_univ_equiv ring.symm (fun c : Dev nD => (dutyTok ER (bcell c) 0 true : sProp 𝕄)),
    bigSep_univ_equiv ring (fun c : Dev nD => (dutyTok ER (bcell c) 0 false : sProp 𝕄)),
    bigSep_univ_equiv ring (fun c : Dev nD => (dutyTok ER (dcell c rsem0) 0 false : sProp 𝕄)),
    bigSep_univ_equiv ring (fun c : Dev nD => (dutyTok ER (dcell c rsem1) 0 false : sProp 𝕄)),
    bigSep_univ_equiv ring.symm (fun c : Dev nD => (dutyTok ER (dcell c rsem2) 0 false : sProp 𝕄)),
    bigSep_univ_equiv ring.symm (fun c : Dev nD => (dutyTok ER (dcell c rsem3) 0 false : sProp 𝕄)),
    bigSep_univ_equiv ring (fun c : Dev nD => (dutyTok ER (dcell c rsem4) 0 false : sProp 𝕄)),
    bigSep_univ_equiv ring (fun c : Dev nD => (dutyTok ER (dcell c rsem5) 0 false : sProp 𝕄)),
    bigSep_univ_equiv ring.symm (fun c : Dev nD => (dutyTok ER (dcell c rsem6) 0 false : sProp 𝕄)),
    bigSep_univ_equiv ring.symm (fun c : Dev nD => (dutyTok ER (dcell c rsem7) 0 false : sProp 𝕄))]
  iintro ⟨HT, HB, Hssem0, Hssem1, Hssem2, Hssem3, Hssem4, Hssem5, Hssem6, Hssem7, Hrsem0, Hrsem1, Hrsem2, Hrsem3, Hrsem4, Hrsem5, Hrsem6, Hrsem7⟩
  isplitl [HT HB]
  · isplitl [HT]; · iexact HT
    iexact HB
  isplitl [Hssem0 Hssem1 Hssem2 Hssem3]
  · isplitl [Hssem0]; · iexact Hssem0
    isplitl [Hssem1]; · iexact Hssem1
    isplitl [Hssem2]; · iexact Hssem2
    iexact Hssem3
  isplitl [Hssem4 Hssem5 Hssem6 Hssem7]
  · isplitl [Hssem4]; · iexact Hssem4
    isplitl [Hssem5]; · iexact Hssem5
    isplitl [Hssem6]; · iexact Hssem6
    iexact Hssem7
  isplitl [Hrsem0 Hrsem1 Hrsem2 Hrsem3]
  · isplitl [Hrsem0]; · iexact Hrsem0
    isplitl [Hrsem1]; · iexact Hrsem1
    isplitl [Hrsem2]; · iexact Hrsem2
    iexact Hrsem3
  isplitl [Hrsem4]; · iexact Hrsem4
  isplitl [Hrsem5]; · iexact Hrsem5
  isplitl [Hrsem6]; · iexact Hrsem6
  iexact Hrsem7

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Fin 17 → ℕ) (c : Dev nD) : iprop(facts m ρ K ∗ (poss c ∗ payToks c) ∗ locals c) ⊢ G' m ρ c := by
  unfold G'
  iintro ⟨HF, Ht, Hl⟩
  isplitr [Hl]
  · iexists K
    isplitl [HF]; · iexact HF
    iapply (tickets_intro (F := F) c); iexact Ht
  iexact Hl

theorem regroup :
    (bigSep Finset.univ fun c : Dev nD => iprop((bigSep Finset.univ fun k => iprop(∃ κ : ℕ, cellInv ER (gRd m ρ) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m ρ) := by
  rw [bigSep_sep', bigSep_sep', bigSep_sep', ← bigSep_univ_prod (fun ck : Dev nD × Fin 17 => iprop(∃ κ : ℕ, cellInv ER (gRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok, Hl⟩
  ihave HK := (BI.bigSep_exists_pi Finset.univ (fun (ck : Dev nD × Fin 17) (κ : ℕ) => (cellInv ER (gRd m ρ) κ (kcell ck) : sProp 𝕄))) $$ HI
  icases HK with ⟨%K, #HI⟩
  ihave Htk := (toks_around (F := F)) $$ Htok
  iapply (bigSep_beside (R := facts m ρ K) fun c _ => deal m ρ K c)
  isplitr
  · unfold facts; isplitl; · iexact HI
    iexact HR
  · rw [bigSep_sep', bigSep_sep']
    isplitr [Hl]
    · isplitl [Hat]; · iexact Hat
      iexact Htk
    iexact Hl

theorem setup : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => cells_alloc m ρ c).trans (bigSep_fupd _ _)).trans (BI.fupd_mono (regroup m ρ))

/-! ## What the launch credits each device with -/

theorem owed_apply (ps : List (GSem nD τ sig × ℕ)) (g : GSem nD τ sig) :
    owed ps g () = (ps.map fun p => if g = p.1 then p.2 else 0).sum := by
  induction ps with
  | nil => rfl
  | cons p ps ih =>
    unfold owed
    rw [Pi.add_apply, Finsupp.add_apply, tallyAt_apply, ih, List.map_cons, List.sum_cons, Nat.add_comm]
    simp only [and_true]

/-- One debt, the same on every device up to a turn of the ring, summed over the devices. -/
theorem debt_sum (e : Dev nD ≃ Dev nD) (c : Dev nD) (s t : SemLoc sig) (n : ℕ) :
    (∑ d : Dev nD, if (((c : Thread nD τ), s) : GSem nD τ sig) = (((e d : Dev nD) : Thread nD τ), t) then n else 0) = if s = t then n else 0 := by
  rw [Finset.sum_congr rfl (g := fun d => if d = e.symm c then (if s = t then n else 0) else 0) fun d _ => ?_]
  · rw [Finset.sum_ite_eq' Finset.univ (e.symm c) fun _ => if s = t then n else 0, if_pos (Finset.mem_univ _)]
  · by_cases hd : d = e.symm c
    · subst hd
      rw [if_pos rfl, Equiv.apply_symm_apply]
      by_cases hs : s = t
      · subst hs; rw [if_pos rfl, if_pos rfl]
      · rw [if_neg hs, if_neg fun h => hs (congrArg Prod.snd h)]
    · rw [if_neg hd, if_neg fun h => hd ?_]
      have hc : c = e d := Fin.ext (congrArg (fun g : GSem nD τ sig => g.1.1.val) h)
      rw [hc, Equiv.symm_apply_apply]

theorem due (c : Dev nD) (s : SemLoc sig) : ∑ d : Dev nD, D d 0 ((c : Thread nD τ), s) ()
    = (if s = .reg barS then 1 else 0) + ((if s = .reg barS then 1 else 0) + ((if s = .dma rsem0 then N512 else 0) + ((if s = .dma rsem1 then N512 else 0) + ((if s = .dma rsem2 then N512 else 0) + ((if s = .dma rsem3 then N512 else 0) + ((if s = .dma rsem4 then N256 else 0) + ((if s = .dma rsem5 then N256 else 0) + ((if s = .dma rsem6 then N256 else 0) + ((if s = .dma rsem7 then N256 else 0) + (0)))))))))) := by
  rw [Finset.sum_congr rfl fun d _ => show D d 0 ((c : Thread nD τ), s) () = _ from owed_apply ((debts d).drop 0) ((c : Thread nD τ), s)]
  unfold debts
  simp only [List.drop_zero, List.map_cons, List.map_nil, List.sum_cons, List.sum_nil, Finset.sum_add_distrib]
  refine congrArg₂ (· + ·) (debt_sum ring.symm c s (.reg barS) 1) (congrArg₂ (· + ·) (debt_sum ring c s (.reg barS) 1) (congrArg₂ (· + ·) (debt_sum ring c s (.dma rsem0) N512) (congrArg₂ (· + ·) (debt_sum ring c s (.dma rsem1) N512) (congrArg₂ (· + ·) (debt_sum ring.symm c s (.dma rsem2) N512) (congrArg₂ (· + ·) (debt_sum ring.symm c s (.dma rsem3) N512) (congrArg₂ (· + ·) (debt_sum ring c s (.dma rsem4) N256) (congrArg₂ (· + ·) (debt_sum ring c s (.dma rsem5) N256) (congrArg₂ (· + ·) (debt_sum ring.symm c s (.dma rsem6) N256) (congrArg₂ (· + ·) (debt_sum ring.symm c s (.dma rsem7) N256) (Finset.sum_const_zero))))))))))

omit [FloatOps F] in
theorem credit_at (c : Dev nD) (s : SemLoc sig) (n : ℕ) (h : ∑ d : Dev nD, D d 0 ((c : Thread nD τ), s) () = n) :
    tallyOn ((c : Thread nD τ), s) (launchCredit (Pipeline.owing fun d => D d 0) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, h]

omit [FloatOps F] in
theorem credits_intro (c : Dev nD) : (Pipeline.launchCred (fun d => D d 0) c : sProp 𝕄) ⊢ credits c := by
  have h1 : (bigSep Finset.univ fun s : SemLoc sig => (cred (tallyOn ((c : Thread nD τ), s) (launchCredit (Pipeline.owing fun d => D d 0) 0 ((c : Thread nD τ), s))) : sProp 𝕄))
      ⊢ bigSep ([SemLoc.reg barS, SemLoc.dma rsem0, SemLoc.dma rsem1, SemLoc.dma rsem2, SemLoc.dma rsem3, SemLoc.dma rsem4, SemLoc.dma rsem5, SemLoc.dma rsem6, SemLoc.dma rsem7] : List (SemLoc sig)).toFinset fun s => cred (tallyOn ((c : Thread nD τ), s) (launchCredit (Pipeline.owing fun d => D d 0) 0 ((c : Thread nD τ), s))) :=
    BI.bigSep_subset (Finset.subset_univ _)
  rw [bigSep_eq_bigSepL_of_eq [SemLoc.reg barS, SemLoc.dma rsem0, SemLoc.dma rsem1, SemLoc.dma rsem2, SemLoc.dma rsem3, SemLoc.dma rsem4, SemLoc.dma rsem5, SemLoc.dma rsem6, SemLoc.dma rsem7] rfl (by decide)] at h1
  simp only [bigSepL] at h1
  rw [credit_at c (.reg barS) 2 (by rw [due]; decide),
    credit_at c (.dma rsem0) N512 (by rw [due]; simp (decide := true)),
    credit_at c (.dma rsem1) N512 (by rw [due]; simp (decide := true)),
    credit_at c (.dma rsem2) N512 (by rw [due]; simp (decide := true)),
    credit_at c (.dma rsem3) N512 (by rw [due]; simp (decide := true)),
    credit_at c (.dma rsem4) N256 (by rw [due]; simp (decide := true)),
    credit_at c (.dma rsem5) N256 (by rw [due]; simp (decide := true)),
    credit_at c (.dma rsem6) N256 (by rw [due]; simp (decide := true)),
    credit_at c (.dma rsem7) N256 (by rw [due]; simp (decide := true))] at h1
  unfold Pipeline.launchCred credits
  refine h1.trans (?_ : iprop(cred (tallyAt (bcell c) () 2) ∗ cred (tallyAt (dcell c rsem0) () N512) ∗ cred (tallyAt (dcell c rsem1) () N512) ∗ cred (tallyAt (dcell c rsem2) () N512) ∗ cred (tallyAt (dcell c rsem3) () N512) ∗ cred (tallyAt (dcell c rsem4) () N256) ∗ cred (tallyAt (dcell c rsem5) () N256) ∗ cred (tallyAt (dcell c rsem6) () N256) ∗ cred (tallyAt (dcell c rsem7) () N256)) ⊢ _)
  iintro ⟨HcB, Hc0, Hc1, Hc2, Hc3, Hc4, Hc5, Hc6, Hc7⟩
  isplitl [HcB]; · iexact HcB
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  iexact Hc7

/-! ## The run -/

theorem start_intro (c : Dev nD) :
    iprop(Pipeline.unscopedRestP Pipeline.Prefetch.none cfg0.spec c (fun b => m ((c : Thread nD τ).loc b)) ∗ levAts L lv
        ∗ Pipeline.launchCred (fun d => D d 0) c ∗ prngReg c (ρ c) ∗ G' m ρ c)
      ⊢ |={Set.univ}=> iprop(start m ρ c ∗ emp) := by
  rw [Pipeline.unscopedRestP_none, unscopedRest0_eq]
  unfold start G' arrs
  iintro ⟨⟨Hx, Hw, Ho⟩, Hlev, Hcr, -, HG, Hl⟩
  ihave Hc := (credits_intro (F := F) c) $$ Hcr
  imodintro
  isplitl
  · isplitl [HG]; · iexact HG
    isplitl [Hc]; · iexact Hc
    isplitl [Hl]; · iexact Hl
    isplitl [Hlev]; · iexact Hlev
    iexists (m ((c : Thread nD τ).loc main_v1))
    isplitl [Hx]; · iexact Hx
    isplitl [Hw]; · iexact Hw
    iexact Ho
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What is kept of a device for the end: its barrier at zero and the three arrays. -/
def keep (c : Dev nD) : sProp 𝕄 := iprop(unscopedSems0 c ∗ arrs m ρ c (OUT m ρ (sc m c) c))

theorem leave (c : Dev nD) :
    (dats m ρ 0 c).Φ (Fin.last cfg0.N) ⊢ iprop(keep m ρ c ∗ Pipeline.ownSems0 osem c ∗ Pipeline.scopedRest cfg0.spec c) := by
  rw [show (dats m ρ 0 c).Φ (Fin.last cfg0.N) = Φ₁ m ρ c from rfl, scopedRest0_eq]
  unfold Φ₁ keep
  rw [unscoped_bar]
  iintro ⟨Hb, Hl, Hr, Hs, Ha⟩
  isplitl [Hb Ha]
  · isplitl [Hb] <;> iassumption
  isplitl [Hl Hr]
  · iapply (sems_back (F := F) c)
    isplitl [Hl] <;> iassumption
  unfold scratch
  iexact Hs

theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 16 := by fin_cases w <;> fin_cases s <;> decide
    rcases t with ⟨_ | _, ht⟩
    · exact mayWait_low c _ hq 0
    · exact mayWait_low c _ hq 10

/-- How a device's memory ends. -/
def Ends (c : Dev nD) (s : MemSt nD τ sig (Elt F)) : Prop :=
  (∀ sm : SemLoc sig, sm.isScoped .tc = false → s.sem ((c.tc : Thread nD τ), sm) = 0)
    ∧ s.mem (xM.view.loc (c : Thread nD τ)) = xA m ρ c ∧ s.mem (wM.view.loc (c : Thread nD τ)) = wA m ρ c
    ∧ s.mem (oM.view.loc (c : Thread nD τ)) = OUT m ρ (sc m c) c

theorem ends (c : Dev nD) (s' : Phys nD τ sig (Elt F)) :
    iprop(keep m ρ c ∗ emp ∗ SI s') ⊢ |={Set.univ}=> iprop(⌜Ends m ρ c s'.mem⌝ ∗ SI s') := by
  unfold keep arrs
  iintro ⟨⟨Hu, Hx, Hw, Ho⟩, -, HSI⟩
  icombine HSI Hx gives %hx
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr [HSI]
  · ipureintro
    exact ⟨hs, Buf.eq_of_forall_mem_univ hx, Buf.eq_of_forall_mem_univ hw, Buf.eq_of_forall_mem_univ ho⟩
  iexact HSI

/-- The end of a run: every argument as it was, the result the computed one, every semaphore at zero. -/
def Final (r : PUnit × MemSt nD τ sig (Elt F)) : Prop :=
  (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_v1) = OUT m ρ (sc m c) c)
  ∧ r.2.sem = fun _ => 0

theorem u₀_split :
    (ownU (nD := nD) (τ := τ) (sig := sig) (Ix := Unit) (Val := Elt F) (Name := ℕ) (Lvl := ℕ) u₀ : sProp 𝕄)
      ⊢ iprop(BI.own (EP (initOf (Pipeline.cells cfgs cellOf_inj) (Pipeline.launchToks cfgs cellOf_inj)))
        ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

set_option maxRecDepth 8000 in
/-- From any memory with every semaphore at zero, over any float values: every weakly fair execution of the mesh
    terminates, and ends as `Final` says. -/
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ osem_ok (Pipeline.PreFacts.none _) EP defs₀ 𝒱₀ m ρ main
    (hmain := fun _ => rfl)
    (hbody := point m ρ) (hne := fun w => by fin_cases w <;> exact Nat.succ_pos _) (harr := arr_whole0) (hstage := stage_whole0)
    (hshare := share_full m ρ) (hdistinct := winFacts0.arr_inj)
    (O₀ := fun d => D d 0) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (u₀_split (F := F)) $$ Hu
      icases H with ⟨HP, HX⟩
      imod (fund_cells m ρ) $$ HX with HG
      imodintro
      isplitl [HP] <;> iassumption)
    (hglob := setup m ρ)
    (hA := fun _ _ => rfl) (hpf := fun _ k => k.elim0)
    (X := start m ρ) (Y := keep m ρ) (Z := fun _ => iprop(emp))
    (hX := start_intro m ρ) (hin := enter m ρ) (hout := leave m ρ)
    (QY := Ends m ρ) (hY := ends m ρ)
    (hQ := fun _ h hs => ⟨fun c => ⟨(h c).2.2.2.1, (h c).2.2.2.2.1,
      ((h c).1 (0 : Fin 2)).trans ((dats m ρ 0 c).arrAt_in (0 : Fin 2) rfl _), ((h c).1 (1 : Fin 2)).trans ((dats m ρ 0 c).arrAt_in (1 : Fin 2) rfl _),
      (h c).2.2.2.2.2⟩, sem_eq_zero hs fun c => (h c).2.2.1⟩)

end Cert.KernelIdeal.Gather

end
-- ==== Proof.Value.lean ====
/- # The value over the reals: every device's result is its columns of the clipped, scaled product. -/
module

public import proofs.«01_k».proof.Proof.Launch
public import proofs.«01_k».proof.Proof.Gen.ReferenceIdeal.Run
public import Idealize.ShloMosaic.Lib.Layout
public import Idealize.ShloMosaic.Lib.Pointwise

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-! ## The product -/

/-- The whole result, in plain sums: rows by columns, scaled, clipped at zero. -/
def whole (X : Cert.ReferenceIdeal.S4096x4096.Idx → Ideal .f32) (W : S4096x8192.Idx → Ideal .f32) (s : Ideal .f32) : S4096x8192.Idx → Ideal .f32 :=
  fun i => max ((∑ k : Fin 4096, X (ix2 (i 0) k) * W (ix2 k (i 1))) * s) 0

theorem b1_val (s : Ideal .f32) (c d : Dev nD) (h : ℕ) (i : S1024x1024.Idx) : B1 m ρ s c d h i
    = max ((∑ k : Fin 4096, xA m ρ d (ix2 (i 0) k) * wA m ρ c (wIx c (whIx h (ix2 k (i 1))))) * s) 0 := by
  pointwise [B1, X8, WH, W8]
theorem b2_val (s : Ideal .f32) (c d : Dev nD) (r h : ℕ) (i : S256x1024.Idx) : B2 m ρ s c d r h i
    = max ((∑ k : Fin 4096, xA m ρ d (xqIx r (ix2 (i 0) k)) * wA m ρ c (wIx c (whIx h (ix2 k (i 1))))) * s) 0 := by
  pointwise [B2, XQ, X8, WH, W8]

/-- A coordinate of a shard, as a row of the whole left operand. -/
theorem shard_row (h : Layout.Tiles ⟨2, ![1024, 4096]⟩ ⟨2, ![4096, 4096]⟩ 0 4) (d : Dev nD) (j : S1024x4096.Idx) (r k : Fin 4096)
    (hr : d.val * 1024 + (j 0).val = r.val) (hk : (j 1).val = k.val) : h.idx d j = ix2 r k := by
  funext a
  match a with
  | 0 => exact Fin.ext hr
  | 1 => exact Fin.ext hk

/-- A column of one device's half, as a column of the whole right operand. -/
theorem half_col (c : Dev nD) (k : Fin 4096) (q : Fin 2048) (e : Fin 8192) (u : Fin 1024) (hu : u.val = q.val % 1024) (he : c.val * 2048 + q.val = e.val) :
    wIx c (whIx (q.val / 1024) (ix2 k u)) = ix2 k e := by
  have hq := q.isLt
  funext a
  match a with
  | 0 => rfl
  | 1 => exact Fin.ext (show 2048 * c.val + (1024 * (q.val / 1024) + u.val) % 2048 = e.val by omega)

/-- Where device `c`'s columns lie in the whole result. -/
theorem col_block (h : Layout.Tiles ⟨2, ![4096, 2048]⟩ ⟨2, ![4096, 8192]⟩ 1 4) (c : Dev nD) (i : S4096x2048.Idx) :
    ((h.idx c i) 0).val = (i 0).val ∧ ((h.idx c i) 1).val = c.val * 2048 + (i 1).val := ⟨rfl, rfl⟩

/-- Device `c`'s result is its block of columns of the whole. -/
theorem out_block (X : Cert.ReferenceIdeal.S4096x4096.Idx → Ideal .f32) (W : S4096x8192.Idx → Ideal .f32) (s : Ideal .f32) (c : Dev nD)
    (hX : ∀ d : Dev nD, xA m ρ d = Layout.block ⟨2, ![1024, 4096]⟩ ⟨2, ![4096, 4096]⟩ 0 4 d X) (hW : wA m ρ c = W) :
    OUT m ρ s c = Layout.block ⟨2, ![4096, 2048]⟩ ⟨2, ![4096, 8192]⟩ 1 4 c (whole X W s) := by
  funext i
  have h0 : (i 0).val < 4096 := (i 0).isLt
  have h1 : (i 1).val < 2048 := (i 1).isLt
  rw [Layout.block_apply]
  unfold whole OUT
  split
  · rename_i hd
    have hd' : (i 0).val / 1024 % 4 = (at_ c 2).val := congrArg Fin.val hd
    unfold ACC2
    rw [b2_val, hX, hW]
    refine congrArg (fun t : Ideal .f32 => max (t * s) 0) (Finset.sum_congr rfl fun k _ => ?_)
    rw [Layout.block_apply]
    refine congrArg₂ (fun a b : Ideal .f32 => a * b) (congrArg X (shard_row _ _ _ _ k ?_ rfl)) (congrArg W (half_col c k (i 1) _ _ rfl rfl))
    show (at_ c 2).val * 1024 + (256 * ((i 0).val % 1024 / 256) + (i 0).val % 1024 % 256) % 1024 = (i 0).val
    omega
  · unfold ACC1
    rw [b1_val, hX, hW]
    refine congrArg (fun t : Ideal .f32 => max (t * s) 0) (Finset.sum_congr rfl fun k _ => ?_)
    rw [Layout.block_apply]
    refine congrArg₂ (fun a b : Ideal .f32 => a * b) (congrArg X (shard_row _ _ _ _ k ?_ rfl)) (congrArg W (half_col c k (i 1) _ _ rfl rfl))
    show (i 0).val / 1024 % 4 * 1024 + (i 0).val % 1024 = (i 0).val
    omega

/-! ## The scale -/

theorem one_idx (i j : S1.Idx) : i = j := funext fun a => by
  match a with
  | 0 => exact Fin.ext (by have hi : (i 0).val < 1 := (i 0).isLt; have hj : (j 0).val < 1 := (j 0).isLt; omega)

theorem sxS_eq (c : Dev nD) : sxS m c = m ((c.tc : Thread nD τ).loc main_arg2) := funext fun y =>
  show m ((c.tc : Thread nD τ).loc main_arg2) _ = m ((c.tc : Thread nD τ).loc main_arg2) y from congrArg _ (one_idx _ _)
theorem swS_eq (c : Dev nD) : swS m c = m ((c.tc : Thread nD τ).loc main_arg3) := funext fun y =>
  show m ((c.tc : Thread nD τ).loc main_arg3) _ = m ((c.tc : Thread nD τ).loc main_arg3) y from congrArg _ (one_idx _ _)

/-- The scale a device multiplies by is the product of the two scale arguments. -/
theorem sc_val (c : Dev nD) (p : S1.Idx → Ideal .f32) (q : S1.Idx → Ideal .f32)
    (hp : m ((c.tc : Thread nD τ).loc main_arg2) = p) (hq : m ((c.tc : Thread nD τ).loc main_arg3) = q) :
    sc m c = p (ix1 0) * q (ix1 0) := by
  unfold sc scl
  rw [sxS_eq, swS_eq, hp, hq, one_idx (Shape.Idx.first (by decide)) (ix1 0)]
  rfl

/-! ## The reference -/

/-- The reference's result, read off at an index. -/
theorem ref_val (X : Cert.ReferenceIdeal.S4096x4096.Idx → Ideal .f32) (W : S4096x8192.Idx → Ideal .f32) (p q : S1.Idx → Ideal .f32) :
    (maximumf (mulf (Host.dotGeneral (F := Ideal) Cert.ReferenceIdeal.dot_S4096x4096_S4096x8192_S4096x8192_1_0_0_1_n_n none X W)
      (broadcastInDim Cert.ReferenceIdeal.S4096x8192 ![0, 1] Cert.ReferenceIdeal.Gen.bcast_S1x1_S4096x8192_0_1
        (broadcastInDim Cert.ReferenceIdeal.S1x1 ![1] Cert.ReferenceIdeal.Gen.bcast_S1_S1x1_1 (mulf p q))))
      (broadcastInDim Cert.ReferenceIdeal.S4096x8192 ![] Cert.ReferenceIdeal.Gen.bcast_S_S4096x8192 (constant Cert.ReferenceIdeal.S_ .f32 0x00000000#32))
      : S4096x8192.Idx → Ideal .f32) = whole X W (p (ix1 0) * q (ix1 0)) := by
  funext i
  pointwise [whole]

end Cert.KernelIdeal.Gather

end
-- ==== Proof.lean ====
/- # The five claims: the kernel's runs from `Launch`, the reference's from its own operations, the equation from `Value`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.KernelIdeal.Gather

/-- The printed kernel and its idealization have the same bodies, read at bits. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem defs_same : Cert.Kernel.defs (F := Bits) = Cert.KernelIdeal.defs (F := Bits) :=
  congrArg (Pipeline.defs Cert.KernelIdeal.pcfgs) bodies_same

/-- The arguments unchanged and every semaphore at zero, out of how a run ends. -/
theorem frame_kernel : Cert.quiescent_Kernel := fun m ρ _ => by
  have h := run_main (F := Bits) m ρ
  rw [← defs_same] at h
  exact (θ_run Cert.Kernel.defs _ _).mono
    (fun _ h => ⟨fun c => ⟨(h.1 c).1, (h.1 c).2.1, (h.1 c).2.2.1, (h.1 c).2.2.2.1⟩, h.2⟩) h

theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its columns of what the reference computes. -/
theorem equal : Cert.algebraic_KernelIdeal_ReferenceIdeal := fun m g m' g' _ hin =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) _,
    (θ_run Cert.KernelIdeal.defs _ _).mono
      (fun _ h c => ⟨(h.1 c).2.2.2.2.trans
          ((out_block m g _ _ (sc m c) c (fun d => (hin d).1) (hin c).2.1).trans
            (congrArg (fun s => Layout.block ⟨2, ![4096, 2048]⟩ ⟨2, ![4096, 8192]⟩ 1 4 c (whole _ _ s)) (sc_val m c _ _ (hin c).2.2.1 (hin c).2.2.2))),
        (h.1 c).1, (h.1 c).2.1, (h.1 c).2.2.1, (h.1 c).2.2.2.1⟩)
      (run_main (F := Ideal) m g),
    (θ_run Cert.ReferenceIdeal.defs _ _).mono
      (fun _ h => ⟨(h 0).1.trans (ref_val _ _ _ _), (h 0).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, equal⟩

end Cert.Proof

end
